-- ==== Defs.lean ====
def Pre_Kernel [hPre_idx_in_table : Cert.Pre_idx_in_table.Facts] (m : (ℓ : Loc Cert.Kernel.nD Cert.Kernel.τ Cert.Kernel.sig) → Buf (Elt Bits) ℓ) : Prop :=
  ∀ c : Dev Cert.Kernel.nD,
    (Cert.Pre_idx_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_idx_in_table : Cert.Pre_idx_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_idx_in_table_and_bags [hPre_idx_in_table_and_bags : Cert.Pre_idx_in_table_and_bags.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_table_and_bags.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_in_table_and_bags [hPre_idx_in_table_and_bags : Cert.Pre_idx_in_table_and_bags.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_table_and_bags.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_idx_in_table : Cert.Pre_idx_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_idx_in_table : Cert.Pre_idx_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_idx_in_table_and_bags [hKernelIdeal : Cert.KernelIdeal.Facts] [hPre_idx_in_table_and_bags : Cert.Pre_idx_in_table_and_bags.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_idx_in_table_and_bags m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_idx_in_table_and_bags [hReferenceIdeal : Cert.ReferenceIdeal.Facts] [hPre_idx_in_table_and_bags : Cert.Pre_idx_in_table_and_bags.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_in_table_and_bags m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_idx_in_table_and_bags [hKernelIdeal : Cert.KernelIdeal.Facts] [hReferenceIdeal : Cert.ReferenceIdeal.Facts] [hPre_idx_in_table_and_bags : Cert.Pre_idx_in_table_and_bags.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_idx_in_table_and_bags m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_idx_in_table : Cert.Pre_idx_in_table.Facts) (hPre_idx_in_table_and_bags : Cert.Pre_idx_in_table_and_bags.Facts),
    quiescent_Kernel (hKernel := hKernel) (hPre_idx_in_table := hPre_idx_in_table)
    ∧ quiescent_KernelIdeal (hKernelIdeal := hKernelIdeal) (hPre_idx_in_table := hPre_idx_in_table)
    ∧ quiescent_KernelIdeal_pre_idx_in_table_and_bags (hKernelIdeal := hKernelIdeal) (hPre_idx_in_table_and_bags := hPre_idx_in_table_and_bags)
    ∧ quiescent_ReferenceIdeal (hReferenceIdeal := hReferenceIdeal)
    ∧ quiescent_ReferenceIdeal_pre_idx_in_table_and_bags (hReferenceIdeal := hReferenceIdeal) (hPre_idx_in_table_and_bags := hPre_idx_in_table_and_bags)
    ∧ preserves_Kernel_KernelIdeal
    ∧ algebraic_KernelIdeal_ReferenceIdeal_pre_idx_in_table_and_bags (hKernelIdeal := hKernelIdeal) (hReferenceIdeal := hReferenceIdeal) (hPre_idx_in_table_and_bags := hPre_idx_in_table_and_bags)
-- ==== Pre_idx_in_table.lean ====
abbrev S204800 : Shape := ⟨1, ![204800]⟩
abbrev S4096 : Shape := ⟨1, ![4096]⟩
abbrev S1000000x64 : Shape := ⟨2, ![1000000, 64]⟩
abbrev S64x256 : Shape := ⟨2, ![64, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S204800 : S_.BroadcastsInDim S204800 (![] : Fin 0 → Fin S204800.rank)

variable [Facts]

def fn {F : FTy → Type} [FloatOps F] (main_arg0 : IVec S204800 32) (main_arg1 : IVec S4096 32) (main_arg2 : FVec F S1000000x64 .f32) (main_arg3 : FVec F S64x256 .f32) (main_arg4 : FVec F S256 .f32) (main_arg5 : FVec F S256x64 .f32) (main_arg6 : FVec F S64 .f32) : IVec S204800 1 :=
  let main_c : IVec S_ 32 := constantI S_ 32 0#32
  let main_v0 : IVec S204800 32 := broadcastInDim S204800 ![] bcast_S_S204800 main_c
  let main_v1 : IVec S204800 1 := cmpi .sge main_arg0 main_v0
  let main_c_0 : IVec S_ 32 := constantI S_ 32 1000000#32
  let main_v2 : IVec S204800 32 := broadcastInDim S204800 ![] bcast_S_S204800 main_c_0
  let main_v3 : IVec S204800 1 := cmpi .slt main_arg0 main_v2
  let main_v4 : IVec S204800 1 := andi main_v1 main_v3
  main_v4
-- ==== Pre_idx_in_table_and_bags.lean ====
abbrev S204800 : Shape := ⟨1, ![204800]⟩
abbrev S4096 : Shape := ⟨1, ![4096]⟩
abbrev S1000000x64 : Shape := ⟨2, ![1000000, 64]⟩
abbrev S64x256 : Shape := ⟨2, ![64, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S204800 : S_.BroadcastsInDim S204800 (![] : Fin 0 → Fin S204800.rank)
  reducesTo_S204800_S_d0 : S204800.ReducesTo [0] S_
  h_S_ : 0 < S_.numel
  reducesTo_S4096_S_d0 : S4096.ReducesTo [0] S_

variable [Facts]

def fn {F : FTy → Type} [FloatOps F] (main_arg0 : IVec S204800 32) (main_arg1 : IVec S4096 32) (main_arg2 : FVec F S1000000x64 .f32) (main_arg3 : FVec F S64x256 .f32) (main_arg4 : FVec F S256 .f32) (main_arg5 : FVec F S256x64 .f32) (main_arg6 : FVec F S64 .f32) : IVec S_ 1 :=
  let main_c : IVec S_ 32 := constantI S_ 32 0#32
  let main_v0 : IVec S204800 32 := broadcastInDim S204800 ![] bcast_S_S204800 main_c
  let main_v1 : IVec S204800 1 := cmpi .sge main_arg0 main_v0
  let main_c_0 : IVec S_ 32 := constantI S_ 32 1000000#32
  let main_v2 : IVec S204800 32 := broadcastInDim S204800 ![] bcast_S_S204800 main_c_0
  let main_v3 : IVec S204800 1 := cmpi .slt main_arg0 main_v2
  let main_v4 : IVec S204800 1 := andi main_v1 main_v3
  let main_c_1 : IVec S_ 1 := constantI S_ 1 1#1
  let main_v5 : IVec S_ 1 := (fun x v => Host.reduce IntOp.andi x v reducesTo_S204800_S_d0 h_S_) main_v4 main_c_1
  let main_v6 : IVec S4096 32 := iotaInDim S4096 32 0
  let main_v7 : IVec S4096 1 := cmpi .eq main_arg1 main_v6
  let main_c_2 : IVec S_ 1 := constantI S_ 1 1#1
  let main_v8 : IVec S_ 1 := (fun x v => Host.reduce IntOp.andi x v reducesTo_S4096_S_d0 h_S_) main_v7 main_c_2
  let main_v9 : IVec S_ 1 := andi main_v5 main_v8
  main_v9
-- ==== Kernel.lean ====
abbrev S204800 : Shape := ⟨1, ![204800]⟩
abbrev S4096 : Shape := ⟨1, ![4096]⟩
abbrev S1000000x64 : Shape := ⟨2, ![1000000, 64]⟩
abbrev S64x256 : Shape := ⟨2, ![64, 256]⟩
abbrev S256 : Shape := ⟨1, ![256]⟩
abbrev S256x64 : Shape := ⟨2, ![256, 64]⟩
abbrev S64 : Shape := ⟨1, ![64]⟩
abbrev S64x1000000 : Shape := ⟨2, ![64, 1000000]⟩
abbrev S1000000x128 : Shape := ⟨2, ![1000000, 128]⟩
abbrev S64x16384 : Shape := ⟨2, ![64, 16384]⟩
abbrev S16384x128 : Shape := ⟨2, ![16384, 128]⟩
abbrev S64x64 : Shape := ⟨2, ![64, 64]⟩
abbrev S16384x64 : Shape := ⟨2, ![16384, 64]⟩
abbrev S4096x128 : Shape := ⟨2, ![4096, 128]⟩
abbrev S32x128 : Shape := ⟨2, ![32, 128]⟩
abbrev S128 : Shape := ⟨1, ![128]⟩
abbrev S128x128 : Shape := ⟨2, ![128, 128]⟩
abbrev S6272 : Shape := ⟨1, ![6272]⟩
abbrev S112x128 : Shape := ⟨2, ![112, 128]⟩
abbrev S_ : Shape := ⟨0, ![]⟩
abbrev S112 : Shape := ⟨1, ![112]⟩
abbrev S16 : Shape := ⟨1, ![16]⟩
abbrev S1x16 : Shape := ⟨2, ![1, 16]⟩
abbrev S1x128 : Shape := ⟨2, ![1, 128]⟩
abbrev S4096x64 : Shape := ⟨2, ![4096, 64]⟩
abbrev S32x64 : Shape := ⟨2, ![32, 64]⟩
abbrev S1x64 : Shape := ⟨2, ![1, 64]⟩
abbrev S4096x256 : Shape := ⟨2, ![4096, 256]⟩
abbrev S1x256 : Shape := ⟨2, ![1, 256]⟩
abbrev S4096x1 : Shape := ⟨2, ![4096, 1]⟩

abbrev nBuf : Table → Nat
  | .hbm => 12
  | .local .tc .vmem => 11
  | .local .scVector .vmem => 6
  | _ => 0

abbrev bufTy : (tb : Table) → Fin (nBuf tb) → BufTy
  | .hbm, ⟨0, _⟩ => ⟨S204800, .i32⟩
  | .hbm, ⟨1, _⟩ => ⟨S4096, .i32⟩
  | .hbm, ⟨2, _⟩ => ⟨S1000000x64, .f32⟩
  | .hbm, ⟨3, _⟩ => ⟨S64x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S64x1000000, .f32⟩
  | .hbm, ⟨8, _⟩ => ⟨S1000000x128, .f32⟩
  | .hbm, ⟨9, _⟩ => ⟨S4096x128, .f32⟩
  | .hbm, ⟨10, _⟩ => ⟨S32x128, .f32⟩
  | .hbm, ⟨11, _⟩ => ⟨S4096x64, .f32⟩
  | .local .tc .vmem, ⟨0, _⟩ => ⟨S64x16384, .f32⟩
  | .local .tc .vmem, ⟨1, _⟩ => ⟨S64x16384, .f32⟩
  | .local .tc .vmem, ⟨2, _⟩ => ⟨S16384x128, .f32⟩
  | .local .tc .vmem, ⟨3, _⟩ => ⟨S16384x128, .f32⟩
  | .local .tc .vmem, ⟨4, _⟩ => ⟨S4096x128, .f32⟩
  | .local .tc .vmem, ⟨5, _⟩ => ⟨S32x128, .f32⟩
  | .local .tc .vmem, ⟨6, _⟩ => ⟨S64x256, .f32⟩
  | .local .tc .vmem, ⟨7, _⟩ => ⟨S256, .f32⟩
  | .local .tc .vmem, ⟨8, _⟩ => ⟨S256x64, .f32⟩
  | .local .tc .vmem, ⟨9, _⟩ => ⟨S64, .f32⟩
  | .local .tc .vmem, ⟨10, _⟩ => ⟨S4096x64, .f32⟩
  | .local .scVector .vmem, ⟨0, _⟩ => ⟨S128, .i32⟩
  | .local .scVector .vmem, ⟨1, _⟩ => ⟨S128x128, .f32⟩
  | .local .scVector .vmem, ⟨2, _⟩ => ⟨S6272, .i32⟩
  | .local .scVector .vmem, ⟨3, _⟩ => ⟨S112x128, .f32⟩
  | .local .scVector .vmem, ⟨4, _⟩ => ⟨S112x128, .f32⟩
  | .local .scVector .vmem, ⟨5, _⟩ => ⟨S128, .f32⟩
  | _, _ => ⟨S204800, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v3 : Ref sig .tc := ⟨.hbm, 11, rfl⟩
abbrev main_arg0_scv : Ref sig .scVector := ⟨.hbm, 0, rfl⟩
abbrev main_v1_scv : Ref sig .scVector := ⟨.hbm, 8, rfl⟩
abbrev main_v2_0_scv : Ref sig .scVector := ⟨.hbm, 9, rfl⟩
abbrev main_v2_1_scv : Ref sig .scVector := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc2_stg0_0 : Ref sig .tc := ⟨.vmem, 4, rfl⟩
abbrev cc2_stg1_0 : Ref sig .tc := ⟨.vmem, 5, rfl⟩
abbrev cc2_stg2_0 : Ref sig .tc := ⟨.vmem, 6, rfl⟩
abbrev cc2_stg3_0 : Ref sig .tc := ⟨.vmem, 7, rfl⟩
abbrev cc2_stg4_0 : Ref sig .tc := ⟨.vmem, 8, rfl⟩
abbrev cc2_stg5_0 : Ref sig .tc := ⟨.vmem, 9, rfl⟩
abbrev cc2_stg6_0 : Ref sig .tc := ⟨.vmem, 10, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc2_sem0_0 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![62], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) : Fin 1 → Nat :=
  let c4096_i32 : BitVec 32 := 4096#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6272_i32 : BitVec 32 := 6272#32
  let v2 : BitVec 32 := Scalar.muli v1 c6272_i32
  let v3 : BitVec 32 := Scalar.addi c4096_i32 v2
  ![v3.toNat]
def k1_off2 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v4 : BitVec 32 := Scalar.muli v1 c128_i32
  ![v4.toNat]
def k1_off3 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_6 : BitVec 32 := 128#32
  let v9 : BitVec 32 := Scalar.muli v1 c128_i32_6
  let c0_i32_9_r2 : BitVec 32 := 0#32
  ![v9.toNat, 0]
@[reducible] def k1_t1_loop : Scf.Loop 32 :=
  let c0_i32_7 : BitVec 32 := 0#32
  let c28_i32 : BitVec 32 := 28#32
  let v11 : BitVec 32 := Scalar.addi c0_i32_7 c28_i32
  let c1_i32 : BitVec 32 := 1#32
  ⟨c0_i32_7, v11, c1_i32⟩
def k1_off4 (k1_t1 : Fin k1_t1_loop.trips) : Fin 1 → Nat :=
  let c2_i32_9 : BitVec 32 := 2#32
  let c0_i32_7 : BitVec 32 := 0#32
  let c1_i32 : BitVec 32 := 1#32
  let arg15 : BitVec 32 := Scf.iv c0_i32_7 c1_i32 k1_t1
  let v17 : BitVec 32 := Scalar.muli c2_i32_9 arg15
  let c1_i32_10 : BitVec 32 := 1#32
  let v18 : BitVec 32 := Scalar.addi v17 c1_i32_10
  let c112_i32 : BitVec 32 := 112#32
  let v19 : BitVec 32 := Scalar.muli v18 c112_i32
  ![v19.toNat]
def k1_off5 (k1_t1 : Fin k1_t1_loop.trips) : Fin 1 → Nat :=
  let c2_i32_9 : BitVec 32 := 2#32
  let c0_i32_7 : BitVec 32 := 0#32
  let c1_i32 : BitVec 32 := 1#32
  let arg15 : BitVec 32 := Scf.iv c0_i32_7 c1_i32 k1_t1
  let v17 : BitVec 32 := Scalar.muli c2_i32_9 arg15
  let c112_i32_13 : BitVec 32 := 112#32
  let v22 : BitVec 32 := Scalar.muli v17 c112_i32_13
  ![v22.toNat]
@[reducible] def k1_t2_loop : Scf.Loop 32 :=
  let c0_i32_16 : BitVec 32 := 0#32
  let c112_i32_17 : BitVec 32 := 112#32
  let v25 : BitVec 32 := Scalar.addi c0_i32_16 c112_i32_17
  let c1_i32_18 : BitVec 32 := 1#32
  ⟨c0_i32_16, v25, c1_i32_18⟩
def k1_off6 (k1_t2 : Fin k1_t2_loop.trips) : Fin 2 → Nat :=
  let c0_i32_16 : BitVec 32 := 0#32
  let c1_i32_18 : BitVec 32 := 1#32
  let arg20 : BitVec 32 := Scf.iv c0_i32_16 c1_i32_18 k1_t2
  let v37 : Index := Scalar.indexCast arg20
  let c0_30 : Index := 0#32
  ![v37.toNat, 0]
def k1_off7 (k1_t2 : Fin k1_t2_loop.trips) : Fin 2 → Nat :=
  let c0_i32_16 : BitVec 32 := 0#32
  let c1_i32_18 : BitVec 32 := 1#32
  let arg20 : BitVec 32 := Scf.iv c0_i32_16 c1_i32_18 k1_t2
  let v40 : Index := Scalar.indexCast arg20
  let c16_31 : Index := 16#32
  ![v40.toNat, 16]
def k1_off8 (k1_t2 : Fin k1_t2_loop.trips) : Fin 2 → Nat :=
  let c0_i32_16 : BitVec 32 := 0#32
  let c1_i32_18 : BitVec 32 := 1#32
  let arg20 : BitVec 32 := Scf.iv c0_i32_16 c1_i32_18 k1_t2
  let v43 : Index := Scalar.indexCast arg20
  let c32_32 : Index := 32#32
  ![v43.toNat, 32]
def k1_off9 (k1_t2 : Fin k1_t2_loop.trips) : Fin 2 → Nat :=
  let c0_i32_16 : BitVec 32 := 0#32
  let c1_i32_18 : BitVec 32 := 1#32
  let arg20 : BitVec 32 := Scf.iv c0_i32_16 c1_i32_18 k1_t2
  let v46 : Index := Scalar.indexCast arg20
  let c48_33 : Index := 48#32
  ![v46.toNat, 48]
def k1_cond1 (k1_t1 : Fin k1_t1_loop.trips) : BitVec 1 :=
  let c2_i32_9 : BitVec 32 := 2#32
  let c0_i32_7 : BitVec 32 := 0#32
  let c1_i32 : BitVec 32 := 1#32
  let arg15 : BitVec 32 := Scf.iv c0_i32_7 c1_i32 k1_t1
  let v17 : BitVec 32 := Scalar.muli c2_i32_9 arg15
  let c2_i32_20 : BitVec 32 := 2#32
  let v27 : BitVec 32 := Scalar.addi v17 c2_i32_20
  let c56_i32 : BitVec 32 := 56#32
  let v28 : BitVec 1 := Scalar.cmpi .slt v27 c56_i32
  let v29 : BitVec 32 := Scalar.extui v28
  let c0_i32_21 : BitVec 32 := 0#32
  let v30 : BitVec 1 := Scalar.cmpi .ne v29 c0_i32_21
  v30

def k1_off10 (k1_t1 : Fin k1_t1_loop.trips) : Fin 1 → Nat :=
  let c2_i32_9 : BitVec 32 := 2#32
  let c0_i32_7 : BitVec 32 := 0#32
  let c1_i32 : BitVec 32 := 1#32
  let arg15 : BitVec 32 := Scf.iv c0_i32_7 c1_i32 k1_t1
  let v17 : BitVec 32 := Scalar.muli c2_i32_9 arg15
  let c2_i32_30 : BitVec 32 := 2#32
  let v37 : BitVec 32 := Scalar.addi v17 c2_i32_30
  let c112_i32_31 : BitVec 32 := 112#32
  let v38 : BitVec 32 := Scalar.muli v37 c112_i32_31
  ![v38.toNat]
@[reducible] def k1_t3_loop : Scf.Loop 32 :=
  let c0_i32_26 : BitVec 32 := 0#32
  let c112_i32_27 : BitVec 32 := 112#32
  let v35 : BitVec 32 := Scalar.addi c0_i32_26 c112_i32_27
  let c1_i32_28 : BitVec 32 := 1#32
  ⟨c0_i32_26, v35, c1_i32_28⟩
def k1_off11 (k1_t3 : Fin k1_t3_loop.trips) : Fin 2 → Nat :=
  let c0_i32_26 : BitVec 32 := 0#32
  let c1_i32_28 : BitVec 32 := 1#32
  let arg20 : BitVec 32 := Scf.iv c0_i32_26 c1_i32_28 k1_t3
  let v37 : Index := Scalar.indexCast arg20
  let c0_30 : Index := 0#32
  ![v37.toNat, 0]
def k1_off12 (k1_t3 : Fin k1_t3_loop.trips) : Fin 2 → Nat :=
  let c0_i32_26 : BitVec 32 := 0#32
  let c1_i32_28 : BitVec 32 := 1#32
  let arg20 : BitVec 32 := Scf.iv c0_i32_26 c1_i32_28 k1_t3
  let v40 : Index := Scalar.indexCast arg20
  let c16_31 : Index := 16#32
  ![v40.toNat, 16]
def k1_off13 (k1_t3 : Fin k1_t3_loop.trips) : Fin 2 → Nat :=
  let c0_i32_26 : BitVec 32 := 0#32
  let c1_i32_28 : BitVec 32 := 1#32
  let arg20 : BitVec 32 := Scf.iv c0_i32_26 c1_i32_28 k1_t3
  let v43 : Index := Scalar.indexCast arg20
  let c32_32 : Index := 32#32
  ![v43.toNat, 32]
def k1_off14 (k1_t3 : Fin k1_t3_loop.trips) : Fin 2 → Nat :=
  let c0_i32_26 : BitVec 32 := 0#32
  let c1_i32_28 : BitVec 32 := 1#32
  let arg20 : BitVec 32 := Scf.iv c0_i32_26 c1_i32_28 k1_t3
  let v46 : Index := Scalar.indexCast arg20
  let c48_33 : Index := 48#32
  ![v46.toNat, 48]
def k1_off15 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9_r3 : BitVec 32 := 0#32
  ![v1.toNat, 0]
abbrev grid2 : Pipeline.Grid := .none

abbrev stage2_0 : Fin 1 → Memref sig .tc .vmem S4096x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S32x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S64x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S256x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S4096x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S204800 : Shape := ⟨1, ![204800]⟩
abbrev S4096 : Shape := ⟨1, ![4096]⟩
abbrev S1000000x64 : Shape := ⟨2, ![1000000, 64]⟩
abbrev S64x256 : Shape := ⟨2, ![64, 256]⟩
abbrev S256 : Shape := ⟨1, ![256]⟩
abbrev S256x64 : Shape := ⟨2, ![256, 64]⟩
abbrev S64 : Shape := ⟨1, ![64]⟩
abbrev S1x4096 : Shape := ⟨2, ![1, 4096]⟩
abbrev S204800x1 : Shape := ⟨2, ![204800, 1]⟩
abbrev S204800x4096 : Shape := ⟨2, ![204800, 4096]⟩
abbrev S_ : Shape := ⟨0, ![]⟩
abbrev S1 : Shape := ⟨1, ![1]⟩
abbrev S1x1 : Shape := ⟨2, ![1, 1]⟩
abbrev S204800x64 : Shape := ⟨2, ![204800, 64]⟩
abbrev S4096x64 : Shape := ⟨2, ![4096, 64]⟩
abbrev S4096x1 : Shape := ⟨2, ![4096, 1]⟩
abbrev S4096x256 : Shape := ⟨2, ![4096, 256]⟩
abbrev S1x256 : Shape := ⟨2, ![1, 256]⟩
abbrev S1x64 : Shape := ⟨2, ![1, 64]⟩

abbrev nBuf : Space → Nat
  | .hbm => 84
  | .vmem => 0
  | .smem => 0
  | _ => 0

abbrev bufTy : (tb : Table) → Fin (tcTables nBuf tb) → BufTy
  | .hbm, ⟨0, _⟩ => ⟨S204800, .i32⟩
  | .hbm, ⟨1, _⟩ => ⟨S4096, .i32⟩
  | .hbm, ⟨2, _⟩ => ⟨S1000000x64, .f32⟩
  | .hbm, ⟨3, _⟩ => ⟨S64x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S1x4096, .i32⟩
  | .hbm, ⟨8, _⟩ => ⟨S204800, .i32⟩
  | .hbm, ⟨9, _⟩ => ⟨S204800x1, .i32⟩
  | .hbm, ⟨10, _⟩ => ⟨S204800x4096, .i32⟩
  | .hbm, ⟨11, _⟩ => ⟨S204800x4096, .i32⟩
  | .hbm, ⟨12, _⟩ => ⟨S204800x4096, .i1⟩
  | .hbm, ⟨13, _⟩ => ⟨S204800x4096, .i32⟩
  | .hbm, ⟨14, _⟩ => ⟨S_, .i32⟩
  | .hbm, ⟨15, _⟩ => ⟨S204800, .i32⟩
  | .hbm, ⟨16, _⟩ => ⟨S_, .i32⟩
  | .hbm, ⟨17, _⟩ => ⟨S204800, .i32⟩
  | .hbm, ⟨18, _⟩ => ⟨S204800, .i32⟩
  | .hbm, ⟨19, _⟩ => ⟨S_, .i32⟩
  | .hbm, ⟨20, _⟩ => ⟨S204800, .i32⟩
  | .hbm, ⟨21, _⟩ => ⟨S204800, .i1⟩
  | .hbm, ⟨22, _⟩ => ⟨S_, .i32⟩
  | .hbm, ⟨23, _⟩ => ⟨S204800, .i32⟩
  | .hbm, ⟨24, _⟩ => ⟨S204800, .i32⟩
  | .hbm, ⟨25, _⟩ => ⟨S204800, .i32⟩
  | .hbm, ⟨26, _⟩ => ⟨S204800x1, .i32⟩
  | .hbm, ⟨27, _⟩ => ⟨S1, .i32⟩
  | .hbm, ⟨28, _⟩ => ⟨S_, .i32⟩
  | .hbm, ⟨29, _⟩ => ⟨S204800x1, .i32⟩
  | .hbm, ⟨30, _⟩ => ⟨S204800x1, .i1⟩
  | .hbm, ⟨31, _⟩ => ⟨S1x1, .i32⟩
  | .hbm, ⟨32, _⟩ => ⟨S204800x1, .i32⟩
  | .hbm, ⟨33, _⟩ => ⟨S204800x1, .i1⟩
  | .hbm, ⟨34, _⟩ => ⟨S204800x1, .i1⟩
  | .hbm, ⟨35, _⟩ => ⟨S_, .i1⟩
  | .hbm, ⟨36, _⟩ => ⟨S204800, .i1⟩
  | .hbm, ⟨37, _⟩ => ⟨S204800x64, .f32⟩
  | .hbm, ⟨38, _⟩ => ⟨S204800x64, .i1⟩
  | .hbm, ⟨39, _⟩ => ⟨S_, .f32⟩
  | .hbm, ⟨40, _⟩ => ⟨S204800x64, .f32⟩
  | .hbm, ⟨41, _⟩ => ⟨S204800x64, .f32⟩
  | .hbm, ⟨42, _⟩ => ⟨S_, .f32⟩
  | .hbm, ⟨43, _⟩ => ⟨S4096x64, .f32⟩
  | .hbm, ⟨44, _⟩ => ⟨S204800x1, .i32⟩
  | .hbm, ⟨45, _⟩ => ⟨S4096x64, .f32⟩
  | .hbm, ⟨46, _⟩ => ⟨S_, .f32⟩
  | .hbm, ⟨47, _⟩ => ⟨S204800, .f32⟩
  | .hbm, ⟨48, _⟩ => ⟨S_, .f32⟩
  | .hbm, ⟨49, _⟩ => ⟨S4096, .f32⟩
  | .hbm, ⟨50, _⟩ => ⟨S204800x1, .i32⟩
  | .hbm, ⟨51, _⟩ => ⟨S4096, .f32⟩
  | .hbm, ⟨52, _⟩ => ⟨S_, .f32⟩
  | .hbm, ⟨53, _⟩ => ⟨S4096, .f32⟩
  | .hbm, ⟨54, _⟩ => ⟨S4096, .f32⟩
  | .hbm, ⟨55, _⟩ => ⟨S4096x1, .f32⟩
  | .hbm, ⟨56, _⟩ => ⟨S4096x64, .f32⟩
  | .hbm, ⟨57, _⟩ => ⟨S4096x64, .f32⟩
  | .hbm, ⟨58, _⟩ => ⟨S4096x256, .f32⟩
  | .hbm, ⟨59, _⟩ => ⟨S1x256, .f32⟩
  | .hbm, ⟨60, _⟩ => ⟨S4096x256, .f32⟩
  | .hbm, ⟨61, _⟩ => ⟨S4096x256, .f32⟩
  | .hbm, ⟨62, _⟩ => ⟨S_, .f32⟩
  | .hbm, ⟨63, _⟩ => ⟨S4096x256, .f32⟩
  | .hbm, ⟨64, _⟩ => ⟨S4096x256, .f32⟩
  | .hbm, ⟨65, _⟩ => ⟨S4096x64, .f32⟩
  | .hbm, ⟨66, _⟩ => ⟨S1x64, .f32⟩
  | .hbm, ⟨67, _⟩ => ⟨S4096x64, .f32⟩
  | .hbm, ⟨68, _⟩ => ⟨S4096x64, .f32⟩
  | .hbm, ⟨69, _⟩ => ⟨S_, .f32⟩
  | .hbm, ⟨70, _⟩ => ⟨S4096, .f32⟩
  | .hbm, ⟨71, _⟩ => ⟨S_, .f32⟩
  | .hbm, ⟨72, _⟩ => ⟨S4096, .f32⟩
  | .hbm, ⟨73, _⟩ => ⟨S4096, .f32⟩
  | .hbm, ⟨74, _⟩ => ⟨S4096x1, .f32⟩
  | .hbm, ⟨75, _⟩ => ⟨S4096x64, .f32⟩
  | .hbm, ⟨76, _⟩ => ⟨S4096x64, .f32⟩
  | .hbm, ⟨77, _⟩ => ⟨S4096x64, .f32⟩
  | .hbm, ⟨78, _⟩ => ⟨S_, .f32⟩
  | .hbm, ⟨79, _⟩ => ⟨S4096, .f32⟩
  | .hbm, ⟨80, _⟩ => ⟨S4096x1, .f32⟩
  | .hbm, ⟨81, _⟩ => ⟨S4096x1, .f32⟩
  | .hbm, ⟨82, _⟩ => ⟨S4096x64, .f32⟩
  | .hbm, ⟨83, _⟩ => ⟨S4096x64, .f32⟩
  | _, _ => ⟨S204800, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v10 : Ref sig .tc := ⟨.hbm, 41, rfl⟩
abbrev main_cst : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_cst_1 : Ref sig .tc := ⟨.hbm, 46, rfl⟩
abbrev main_v14 : Ref sig .tc := ⟨.hbm, 47, rfl⟩
abbrev main_cst_2 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_cst_3 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_cst_4 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_call1_cst : Ref sig .tc := ⟨.hbm, 69, rfl⟩
abbrev main_call1_v0 : Ref sig .tc := ⟨.hbm, 70, rfl⟩
abbrev main_call1_cst_0 : Ref sig .tc := ⟨.hbm, 71, rfl⟩
abbrev main_call1_v1 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_v5 : Ref sig .tc := ⟨.hbm, 76, rfl⟩
abbrev main_call1_v6 : Ref sig .tc := ⟨.hbm, 77, rfl⟩
abbrev main_call1_cst_1 : Ref sig .tc := ⟨.hbm, 78, rfl⟩
abbrev main_call1_v7 : Ref sig .tc := ⟨.hbm, 79, rfl⟩
abbrev main_call1_v8 : Ref sig .tc := ⟨.hbm, 80, rfl⟩
abbrev main_call1_v9 : Ref sig .tc := ⟨.hbm, 81, rfl⟩
abbrev main_call1_v10 : Ref sig .tc := ⟨.hbm, 82, rfl⟩
abbrev main_v33 : Ref sig .tc := ⟨.hbm, 83, rfl⟩

abbrev nD : Nat := 1
abbrev τ : Topo := Topo.v7x

variable {F : FTy → Type} [FloatOps F]
-- ==== Proof.Setup.lean ====
/-
  The set-up shared by the modules of the proof: the program as the launch theorem sees it, the resource algebra (the
  handshakes' rounds, the two TensorCore pipelines' rounds, the transfers' counters), the buffers, and the functions
  that say what the SparseCore call computes: `inp` (a word of the index array), `rowAt` (an element of a named row of
  the packed table) and `accN` (the running sum of named rows). Everything is over any float values `F`.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import Idealize.ShloMosaic.Lib.ValueIdxCore
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions

@[expose] public section

noncomputable section

namespace Cert.Proof.Bag

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds, the pipelines' rounds, the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The pipelines' rounds inside the right factor. -/
abbrev EP : Emb UP (MT nD τ sig (HIx 1) (Elt F) ℕ UU ℕ) := (Emb.inl : Emb UP (UP × Counters)).trans embR

/-! ## The buffers -/

abbrev inLoc (d : Dev nD) : Loc nD τ sig := (SparseCore.T d).loc main_arg0
abbrev pLoc (d : Dev nD) : Loc nD τ sig := (SparseCore.T d).loc main_v1
abbrev eLoc (d : Dev nD) : Loc nD τ sig := (SparseCore.T d).loc main_v2_0
abbrev sLoc (d : Dev nD) : Loc nD τ sig := (SparseCore.T d).loc main_v2_1

/-! ## What the SparseCore call computes -/

variable (m : (ℓ : Loc nD τ sig) → Buf (Elt F) ℓ)

/-- Word `j` of the index array. -/
def inp (d : Dev nD) (j : ℕ) : BitVec 32 := m (inLoc d) (ix1 (n := 204800) ⟨j % 204800, Nat.mod_lt _ (by decide)⟩)

/-- The row a word names. -/
def rowOfWord (w : BitVec 32) : Fin 1000000 := ⟨w.toNat % 1000000, Nat.mod_lt _ (by decide)⟩

/-- Lane `c` of the row of the packed table that the word `w` names. -/
def rowAt (f : S1000000x128.Idx → F .f32) (w : BitVec 32) (c : Fin 128) : F .f32 := f (ix2 (rowOfWord w) c)

/-- What one vector subcore has summed in lane `c` after `n` rows, its words starting at `base`. -/
def accN [FloatOps F] (f : S1000000x128.Idx → F .f32) (d : Dev nD) (base : ℕ) : ℕ → Fin 128 → F .f32
  | 0, _ => Scalar.ofBits .f32 0x00000000#32
  | n + 1, c => FloatOps.addf (accN f d base n c) (rowAt f (inp m d (base + n)) c)

/-- What the proof asks of the launch memory: every index word names a row of the table. -/
def PreOK : Prop := ∀ (d : Dev nD) (j : S204800.Idx), (m (inLoc d) j).toNat < 1000000

theorem inp_eq (d : Dev nD) (j : S204800.Idx) (n : ℕ) (h : n = (j 0).val) : inp m d n = m (inLoc d) j := by
  subst h
  unfold inp
  congr 1
  rw [eq_ix1 (n := 204800) j]
  congr 1
  exact Fin.ext (Nat.mod_eq_of_lt (j 0).isLt)

/-- The elements of block `w` (128 rows) of the gathered rows. -/
def eSet (w : ℕ) : Finset S4096x128.Idx := Finset.univ.filter fun x => (x 0).val / 128 = w
/-- The elements of row `w` of the partial sums. -/
def sSet (w : ℕ) : Finset S32x128.Idx := Finset.univ.filter fun x => (x 0).val = w

/-- The subcore's number. -/
def widN (c i : ℕ) : ℕ := 2 * i + c

/-- The share of an array every subcore reads that subcore `w` is handed. -/
abbrev tokQ (w : ℕ) : PosShare TreeShare := Transfers.shareTokN (PosShare.right fullShare) w

variable (Q1 : Dev nD → (S1000000x128.Idx → F .f32) → Prop)

/-- The gathered rows of block `w`: row `r` is the packed table's row named by word `r`. -/
def EmbOK (d : Dev nD) (w : ℕ) (g : S4096x128.Idx → F .f32) : Prop :=
  ∃ f, Q1 d f ∧ ∀ x : S4096x128.Idx, (x 0).val / 128 = w → g x = rowAt f (inp m d (x 0).val) (x 1)

/-- The partial sums of row `w`: in its first 64 lanes the sum of the rows named by the 6272 words from `4096 + 6272 w`. -/
def SumOK [FloatOps F] (d : Dev nD) (w : ℕ) (g : S32x128.Idx → F .f32) : Prop :=
  ∃ f, Q1 d f ∧ ∀ x : S32x128.Idx, (x 0).val = w → (x 1).val < 64 → g x = accN m f d (4096 + 6272 * w) 6272 (x 1)

/-- What subcore `w` is handed: a share of the index array and of the packed table (some contents with the property
    `Q1`), its block of the gathered rows and its row of the partial sums. -/
def goAt (d : Dev nD) (w : ℕ) : sProp 𝕄 :=
  iprop((inLoc d ↦{tokQ w} m (inLoc d)) ∗ (∃ f : Buf (Elt F) (pLoc d), ⌜Q1 d f⌝ ∗ pLoc d ↦{tokQ w} f)
    ∗ (eLoc d ↦[eSet w]{fullShare} m (eLoc d)) ∗ (sLoc d ↦[sSet w]{fullShare} m (sLoc d)))

/-- What subcore `w` brings back. -/
def tdAt [FloatOps F] (d : Dev nD) (w : ℕ) : sProp 𝕄 :=
  iprop((∃ g : Buf (Elt F) (eLoc d), ⌜EmbOK m Q1 d w g⌝ ∗ eLoc d ↦[eSet w]{fullShare} g)
    ∗ (∃ g : Buf (Elt F) (sLoc d), ⌜SumOK m Q1 d w g⌝ ∗ sLoc d ↦[sSet w]{fullShare} g))

instance goAt_storable (d : Dev nD) (w : ℕ) : BI.Storable (upEmb : UEmb _ 𝕄) (goAt m Q1 d w) := by
  unfold goAt; infer_instance
instance tdAt_storable [FloatOps F] (d : Dev nD) (w : ℕ) : BI.Storable (upEmb : UEmb _ 𝕄) (tdAt m Q1 d w) := by
  unfold tdAt; infer_instance

variable [FloatOps F]

/-- What the handshakes carry: each task its own, each SparseCore its sixteen tasks'. -/
def P : (K (F := F)).Pay (nD := nD) (Val := Elt F) (Name := ℕ) (U := UU) where
  st := fun q d c => bigSep Finset.univ fun i : Fin ((K (F := F)).nSub q) => goAt m Q1 d (widN c.val i.val)
  dn := fun q d c => bigSep Finset.univ fun i : Fin ((K (F := F)).nSub q) => tdAt m Q1 d (widN c.val i.val)
  go := fun _ d c i => goAt m Q1 d (widN c.val i.val)
  td := fun _ d c i => tdAt m Q1 d (widN c.val i.val)
  x := fun _ _ => iprop(emp)

instance P_storable : (P (F := F) m Q1).IsStorable where
  st q d c := by unfold P; infer_instance
  dn q d c := by unfold P; infer_instance
  go _ d c i := by unfold P; infer_instance
  td _ d c i := by unfold P; infer_instance

end Cert.Proof.Bag

end

end
-- ==== Proof.Deal.lean ====
/-
  How the arrays split among the 32 vector subcores and come back whole.
-/
module

public import proofs.«01_k».proof.Proof.Setup

@[expose] public section

noncomputable section

namespace Cert.Proof.Bag

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ
variable (m : (ℓ : Loc nD τ sig) → Buf (Elt F) ℓ)

/-- The 32 vector subcores, counted by their numbers. -/
theorem bigSep_wid (Φ : ℕ → sProp 𝕄) :
    (bigSep Finset.univ fun c : Fin 2 => bigSep Finset.univ fun i : Fin 16 => Φ (widN c.val i.val)) = bigSep (Finset.range 32) Φ := by
  have h : Finset.range 32 = (Finset.univ : Finset ((_ : Fin 2) × Fin 16)).image fun x => widN x.1.val x.2.val := by decide
  rw [h, SparseCore.bigSep_image_of_injOn (f := fun x : (_ : Fin 2) × Fin 16 => widN x.1.val x.2.val) (by
      intro a _ a' _ e
      obtain ⟨c, i⟩ := a; obtain ⟨c', i'⟩ := a'
      simp only [widN] at e
      have h1 : c = c' := Fin.ext (by omega)
      have h2 : i = i' := Fin.ext (by omega)
      rw [h1, h2]), ← Finset.univ_sigma_univ, Pipeline.bigSep_sigma]

theorem eSets_disjoint : ∀ t ∈ Finset.range 32, ∀ t' ∈ Finset.range 32, t ≠ t' → Disjoint (eSet t) (eSet t') := by
  intro t _ t' _ h
  rw [Finset.disjoint_left]
  intro x hx hx'
  exact h ((Finset.mem_filter.mp hx).2.symm.trans (Finset.mem_filter.mp hx').2)

theorem sSets_disjoint : ∀ t ∈ Finset.range 32, ∀ t' ∈ Finset.range 32, t ≠ t' → Disjoint (sSet t) (sSet t') := by
  intro t _ t' _ h
  rw [Finset.disjoint_left]
  intro x hx hx'
  exact h ((Finset.mem_filter.mp hx).2.symm.trans (Finset.mem_filter.mp hx').2)

theorem eSets_cover : (Finset.range 32).biUnion eSet = Finset.univ := by
  ext x
  refine ⟨fun _ => Finset.mem_univ _, fun _ => Finset.mem_biUnion.mpr ⟨(x 0).val / 128, ?_, Finset.mem_filter.mpr ⟨Finset.mem_univ _, rfl⟩⟩⟩
  have h : (x 0).val < 4096 := (x 0).isLt
  exact Finset.mem_range.mpr (by omega)

theorem sSets_cover : (Finset.range 32).biUnion sSet = Finset.univ := by
  ext x
  refine ⟨fun _ => Finset.mem_univ _, fun _ => Finset.mem_biUnion.mpr ⟨(x 0).val, ?_, Finset.mem_filter.mpr ⟨Finset.mem_univ _, rfl⟩⟩⟩
  have h : (x 0).val < 32 := (x 0).isLt
  exact Finset.mem_range.mpr h

variable (Q1 : Dev nD → (S1000000x128.Idx → F .f32) → Prop) [FloatOps F]

theorem st0_eq (d : Dev nD) : (bigSep Finset.univ fun c : Fin ((K (F := F)).nCore 0) => (P m Q1).st 0 d c) = bigSep (Finset.range 32) (goAt m Q1 d) :=
  bigSep_wid (goAt m Q1 d)

theorem dn0_eq (d : Dev nD) : (bigSep Finset.univ fun c : Fin ((K (F := F)).nCore 0) => (P m Q1).dn 0 d c) = bigSep (Finset.range 32) (tdAt m Q1 d) :=
  bigSep_wid (tdAt m Q1 d)

/-- What the TensorCore hands the 32 subcores, from the arrays; it keeps the other halves of the two arrays they read. -/
theorem deal (d : Dev nD) (f : Buf (Elt F) (pLoc d)) (hf : Q1 d f) :
    iprop((inLoc d ↦{fullShare} m (inLoc d)) ∗ (pLoc d ↦{fullShare} f) ∗ (eLoc d ↦{fullShare} m (eLoc d)) ∗ (sLoc d ↦{fullShare} m (sLoc d)))
      ⊢ (iprop((inLoc d ↦{PosShare.left fullShare} m (inLoc d)) ∗ bigSep (Finset.range 32) (goAt m Q1 d)) : sProp 𝕄) := by
  have hp : ∀ w, (pLoc d ↦{tokQ w} f : sProp 𝕄) ⊢ iprop(∃ f : Buf (Elt F) (pLoc d), ⌜Q1 d f⌝ ∗ pLoc d ↦{tokQ w} f) := fun w => by
    iintro H; iexists f; isplitr; · ipureintro; exact hf
    iexact H
  have hp' : (bigSep (Finset.range 32) fun w => (pLoc d ↦{tokQ w} f : sProp 𝕄))
      ⊢ bigSep (Finset.range 32) fun w => iprop(∃ f : Buf (Elt F) (pLoc d), ⌜Q1 d f⌝ ∗ pLoc d ↦{tokQ w} f) := BI.bigSep_mono (s := Finset.range 32) fun w _ => hp w
  have hg : goAt m Q1 d = fun w => iprop((inLoc d ↦{tokQ w} m (inLoc d)) ∗ (∃ f : Buf (Elt F) (pLoc d), ⌜Q1 d f⌝ ∗ pLoc d ↦{tokQ w} f)
    ∗ (eLoc d ↦[eSet w]{fullShare} m (eLoc d)) ∗ (sLoc d ↦[sSet w]{fullShare} m (sLoc d))) := rfl
  rw [hg, bigSep_sep', bigSep_sep', bigSep_sep', ← pointsTo_biUnion (ℓ := eLoc d) _ _ eSets_disjoint, ← pointsTo_biUnion (ℓ := sLoc d) _ _ sSets_disjoint,
    eSets_cover, sSets_cover]
  iintro ⟨Hi, Hp, He, Hs⟩
  ihave Hi := (pointsTo_share (PosShare.mem_left_op_right fullShare)).1 $$ Hi
  icases Hi with ⟨Hi, Hi'⟩
  ihave Hp := (pointsTo_share (PosShare.mem_left_op_right fullShare)).1 $$ Hp
  icases Hp with ⟨-, Hp'⟩
  ihave Hi' := (Transfers.pointsTo_toks_range (PosShare.right fullShare) 32).1 $$ Hi'
  icases Hi' with ⟨-, Hi'⟩
  ihave Hp' := (Transfers.pointsTo_toks_range (PosShare.right fullShare) 32).1 $$ Hp'
  icases Hp' with ⟨-, Hp'⟩
  isplitl [Hi]; · iexact Hi
  isplitl [Hi']; · iexact Hi'
  isplitl [Hp']
  · iapply hp' $$ Hp'
  isplitl [He] <;> iassumption

/-- What the TensorCore gets back: both results whole, each block and row with what its subcore left. -/
theorem undeal (d : Dev nD) :
    bigSep (Finset.range 32) (tdAt m Q1 d)
      ⊢ (iprop((∃ e : Buf (Elt F) (eLoc d), ⌜∀ w < 32, EmbOK m Q1 d w e⌝ ∗ eLoc d ↦{fullShare} e)
        ∗ (∃ s : Buf (Elt F) (sLoc d), ⌜∀ w < 32, SumOK m Q1 d w s⌝ ∗ sLoc d ↦{fullShare} s)) : sProp 𝕄) := by
  have hg : tdAt m Q1 d = fun w => iprop((∃ g : Buf (Elt F) (eLoc d), ⌜EmbOK m Q1 d w g⌝ ∗ eLoc d ↦[eSet w]{fullShare} g)
    ∗ (∃ g : Buf (Elt F) (sLoc d), ⌜SumOK m Q1 d w g⌝ ∗ sLoc d ↦[sSet w]{fullShare} g)) := rfl
  have : Nonempty (Buf (Elt F) (eLoc d)) := ⟨m (eLoc d)⟩
  have : Nonempty (Buf (Elt F) (sLoc d)) := ⟨m (sLoc d)⟩
  rw [hg, bigSep_sep']
  refine BI.sep_mono ?_ ?_
  · refine (bigSep_exists_pi (Finset.range 32) (fun w (g : Buf (Elt F) (eLoc d)) => iprop(⌜EmbOK m Q1 d w g⌝ ∗ eLoc d ↦[eSet w]{fullShare} g))).trans ?_
    iintro ⟨%fs, H⟩
    ihave H := (bigSep_pure_sep (Finset.range 32) (fun w => EmbOK m Q1 d w (fs w)) (fun w => (eLoc d ↦[eSet w]{fullShare} fs w : sProp 𝕄))) $$ H
    icases H with ⟨%h1, H2⟩
    ihave H2 := (pointsTo_biUnion_join (ℓ := eLoc d) (q := fullShare) (Val := Elt F) (Finset.range 32) eSet fs (m (eLoc d)) eSets_disjoint) $$ H2
    icases H2 with ⟨%g, %hg, H2⟩
    rw [eSets_cover]
    iexists g; isplitr
    · ipureintro
      intro w hw
      obtain ⟨f, hf, h⟩ := h1 w (Finset.mem_range.mpr hw)
      exact ⟨f, hf, fun x hx => (hg w (Finset.mem_range.mpr hw) x (Finset.mem_filter.mpr ⟨Finset.mem_univ _, hx⟩)).trans (h x hx)⟩
    iexact H2
  · refine (bigSep_exists_pi (Finset.range 32) (fun w (g : Buf (Elt F) (sLoc d)) => iprop(⌜SumOK m Q1 d w g⌝ ∗ sLoc d ↦[sSet w]{fullShare} g))).trans ?_
    iintro ⟨%fs, H⟩
    ihave H := (bigSep_pure_sep (Finset.range 32) (fun w => SumOK m Q1 d w (fs w)) (fun w => (sLoc d ↦[sSet w]{fullShare} fs w : sProp 𝕄))) $$ H
    icases H with ⟨%h1, H2⟩
    ihave H2 := (pointsTo_biUnion_join (ℓ := sLoc d) (q := fullShare) (Val := Elt F) (Finset.range 32) sSet fs (m (sLoc d)) sSets_disjoint) $$ H2
    icases H2 with ⟨%g, %hg, H2⟩
    rw [sSets_cover]
    iexists g; isplitr
    · ipureintro
      intro w hw
      obtain ⟨f, hf, h⟩ := h1 w (Finset.mem_range.mpr hw)
      exact ⟨f, hf, fun x hx hx' => (hg w (Finset.mem_range.mpr hw) x (Finset.mem_filter.mpr ⟨Finset.mem_univ _, hx⟩)).trans (h x hx hx')⟩
    iexact H2

end Cert.Proof.Bag

end

end
-- ==== Proof.TcBodies.lean ====
/-
  The bodies of the two TensorCore calls, run once each: what a staged block of the table becomes (`tp_run`), what the
  staged operands of the perceptron become (`mlp_run`).
-/
module

public import proofs.«01_k».proof.Proof.Setup
public import Idealize.ShloMosaic.Lib.VecWindow

@[expose] public section

noncomputable section

namespace Cert.Proof.Bag

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ
variable [FloatOps F]

/-- The results of the perceptron, from the gathered rows, the partial sums and the parameters. -/
def mlpVal (e : S4096x128.Idx → F .f32) (s : S32x128.Idx → F .f32) (w1 : S64x256.Idx → F .f32) (b1 : S256.Idx → F .f32)
    (w2 : S256x64.Idx → F .f32) (b2 : S64.Idx → F .f32) : S4096x64.Idx → F .f32 :=
  k2_pay1 (k2_pay2 e s w1 b1 w2 b2) (k2_pay3 e s w1 b1 w2 b2)

/-- What a view reads after a store of its own sizes through it. -/
theorem read_store_full {κ : Kind} {sp : Space} {s : Shape} {e : EltTy} (v : View sig κ sp s e) (f : v.ty.Contents (Elt F))
    (w : s.Idx → Elt F e) {off : Fin s.rank → ℕ} (inb : ∀ a, off a + s.size a ≤ s.size a) :
    v.read (Elt F) (v.writes (Elt F) f [⟨Rect.unit off s.size inb, w⟩]) = w := by
  show v.read (Elt F) ((v.slice (Rect.unit off s.size inb)).write (Elt F) f w Finset.univ) = w
  funext x
  have h := congrFun (View.read_write_univ (v := v.slice (Rect.unit off s.size inb)) (Val := Elt F) f w) x
  have hx : (Rect.unit off s.size inb).emb x = x := funext fun a => Fin.ext (by
    show off a + 1 * (x a).val = (x a).val
    have := inb a; omega)
  rw [← h]
  exact congrArg (v.read (Elt F) _) hx.symm

/-- The transposition's body: from the staged block `x` it leaves `k0_pay1 x`. -/
theorem tp_run (c : Dev nD) (i : grid0.Coords) (M0 : Memref sig .tc .vmem S64x16384 .f32) (h0 : M0.IsWhole)
    (M1 : Memref sig .tc .vmem S16384x128 .f32) (h1 : M1.IsWhole) (x : S64x16384.Idx → F .f32) (y : S16384x128.Idx → F .f32) (Q : PUnit → sProp 𝕄) :
    iprop(owns (c.tc : Thread nD τ) M0 fullShare x ∗ owns (c.tc : Thread nD τ) M1 fullShare y
        ∗ (iprop(owns (c.tc : Thread nD τ) M0 fullShare x ∗ owns (c.tc : Thread nD τ) M1 fullShare (k0_pay1 x)) -∗ Q ⟨⟩))
      ⊢ wp frame (wpE (defs₀ (F := F)) 𝒱₀ (c.tc : Thread nD τ) none) Set.univ (cc0__tp_body i M0 h0 M1 h1) Q := by
  simp only [cc0__tp_body_eq_skeleton]; unfold cc0__tp_body_skel owns
  iintro ⟨⟨%f0, %e0, H0⟩, ⟨%f1, -, H1⟩, Hk⟩
  sl_exec
  simp only [wp_ret]
  imodintro
  iapply Hk
  isplitl [H0]
  · iexists f0; isplitr; · ipureintro; exact e0
    iexact H0
  iexists _; isplitr; swap; · iexact H1
  ipureintro
  rw [View.readAt_full, e0]
  exact read_store_full M1.view f1 (k0_pay1 x) inb_S16384x128_S16384x128_0_0

/-- The perceptron's body: from the staged operands it leaves `mlpVal`. -/
theorem mlp_run (c : Dev nD) (M0 : Memref sig .tc .vmem S4096x128 .f32) (h0 : M0.IsWhole) (M1 : Memref sig .tc .vmem S32x128 .f32) (h1 : M1.IsWhole)
    (M2 : Memref sig .tc .vmem S64x256 .f32) (h2 : M2.IsWhole) (M3 : Memref sig .tc .vmem S256 .f32) (h3 : M3.IsWhole)
    (M4 : Memref sig .tc .vmem S256x64 .f32) (h4 : M4.IsWhole) (M5 : Memref sig .tc .vmem S64 .f32) (h5 : M5.IsWhole)
    (M6 : Memref sig .tc .vmem S4096x64 .f32) (h6 : M6.IsWhole)
    (x0 : S4096x128.Idx → F .f32) (x1 : S32x128.Idx → F .f32) (x2 : S64x256.Idx → F .f32) (x3 : S256.Idx → F .f32)
    (x4 : S256x64.Idx → F .f32) (x5 : S64.Idx → F .f32) (y : S4096x64.Idx → F .f32) (Q : PUnit → sProp 𝕄) :
    iprop((owns (c.tc : Thread nD τ) M0 fullShare x0 ∗ owns (c.tc : Thread nD τ) M1 fullShare x1 ∗ owns (c.tc : Thread nD τ) M2 fullShare x2
          ∗ owns (c.tc : Thread nD τ) M3 fullShare x3 ∗ owns (c.tc : Thread nD τ) M4 fullShare x4 ∗ owns (c.tc : Thread nD τ) M5 fullShare x5
          ∗ owns (c.tc : Thread nD τ) M6 fullShare y)
        ∗ (iprop(owns (c.tc : Thread nD τ) M0 fullShare x0 ∗ owns (c.tc : Thread nD τ) M1 fullShare x1 ∗ owns (c.tc : Thread nD τ) M2 fullShare x2
          ∗ owns (c.tc : Thread nD τ) M3 fullShare x3 ∗ owns (c.tc : Thread nD τ) M4 fullShare x4 ∗ owns (c.tc : Thread nD τ) M5 fullShare x5
          ∗ owns (c.tc : Thread nD τ) M6 fullShare (mlpVal x0 x1 x2 x3 x4 x5)) -∗ Q ⟨⟩))
      ⊢ wp frame (wpE (defs₀ (F := F)) 𝒱₀ (c.tc : Thread nD τ) none) Set.univ
          (cc2__mlp_body M0 h0 M1 h1 M2 h2 M3 h3 M4 h4 M5 h5 M6 h6) Q := by
  simp only [cc2__mlp_body_eq_skeleton]; unfold cc2__mlp_body_skel
  simp only [k2_part1_eq_skeleton]; unfold k2_part1_skel owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, -, H6⟩⟩, Hk⟩
  sl_exec
  simp only [wp_ret]
  imodintro
  iapply Hk
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  iexists _; isplitr; swap; · iexact H6
  ipureintro
  rw [View.readAt_full, View.readAt_full, View.readAt_full, View.readAt_full, View.readAt_full, View.readAt_full, e0, e1, e2, e3, e4, e5]
  exact read_store_full M6.view f6 (mlpVal x0 x1 x2 x3 x4 x5) inb_S4096x64_S4096x64_0_0

end Cert.Proof.Bag

end

end
-- ==== Proof.TcData.lean ====
/-
  The data of the two TensorCore calls' pipelines (`rds`) and their body obligations.
-/
module

public import proofs.«01_k».proof.Proof.TcBodies

@[expose] public section

noncomputable section

namespace Cert.Proof.Bag

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ
variable [FloatOps F]

/-- The two TensorCore calls take no prefetched table. -/
abbrev adm : (p : Fin 2) → (pcfgs (F := F) p).Adm := fun p => (cfgs p).toPCfg_adm

/-- Contents of every buffer a TensorCore names. -/
abbrev Cont (F : FTy → Type) : Type := (c : Dev nD) → (b : Ref sig .tc) → Buf (Elt F) ((c.tc : Thread nD τ).loc b)

variable (O : Dev nD → CellTallies nD τ sig (HIx 1)) (b : ℕ) (V : Cont F)

/-- The pairs of a TensorCore's waits that lie at or below level `b`. -/
def lowPairs (c : Dev nD) : Set (SemLoc sig × HIx 1) := {p | (K (F := F)).lev (c.tc, p.1) p.2 ≤ b}

/-- The block of the transposed table that point `t` stages. -/
def tpBlock (c : Dev nD) (t : Fin cfg0.N) : (win0_0.xblock (grid0.coords t)).Idx → F .f32 :=
  (win0_0.blk t).view.read (Elt F) (V c main_v0)

/-- The transposition's data: at each point its result's buffer is left at `k0_pay1` of the staged block, whatever stands
    past the array's end. -/
def rd0 (c : Dev nD) : Pipeline.RDat τ (Elt F) (HIx 1) ℕ UU ℕ cfg0 c where
  A w := V c (Pipeline.arrRef spec0 w)
  after w := match w with
    | ⟨0, _⟩ => fun _ _ _ => True
    | ⟨1, _⟩ => fun t _ X => ∃ d, X = k0_pay1 (win0_0.fill (grid0.coords t) d (tpBlock V c t))
  Φ _ := Pipeline.scopedRest (Ix := HIx 1) (Name := ℕ) (U := UU) (Lvl := ℕ) (Val := Elt F) spec0 c
  q _ := fullShare
  owed _ := O c
  recorded _ := lowPairs (F := F) b c

/-- What the perceptron's operands are staged as. -/
def mlpOut (c : Dev nD) : S4096x64.Idx → F .f32 :=
  mlpVal ((win2_0.blk t2_0).view.read (Elt F) (V c main_v2_0)) ((win2_1.blk t2_0).view.read (Elt F) (V c main_v2_1))
    ((win2_2.blk t2_0).view.read (Elt F) (V c main_arg3)) ((win2_3.blk t2_0).view.read (Elt F) (V c main_arg4))
    ((win2_4.blk t2_0).view.read (Elt F) (V c main_arg5)) ((win2_5.blk t2_0).view.read (Elt F) (V c main_arg6))

/-- The perceptron's data: its result's buffer is left at `mlpVal` of the staged operands. -/
def rd1 (c : Dev nD) : Pipeline.RDat τ (Elt F) (HIx 1) ℕ UU ℕ cfg2 c where
  A w := V c (Pipeline.arrRef spec2 w)
  after w := match w with
    | ⟨0, _⟩ => fun _ _ _ => True
    | ⟨1, _⟩ => fun _ _ _ => True
    | ⟨2, _⟩ => fun _ _ _ => True
    | ⟨3, _⟩ => fun _ _ _ => True
    | ⟨4, _⟩ => fun _ _ _ => True
    | ⟨5, _⟩ => fun _ _ _ => True
    | ⟨6, _⟩ => fun _ _ X => X = mlpOut V c
  Φ _ := Pipeline.scopedRest (Ix := HIx 1) (Name := ℕ) (U := UU) (Lvl := ℕ) (Val := Elt F) spec2 c
  q _ := fullShare
  owed _ := O c
  recorded _ := lowPairs (F := F) b c

/-- Both calls' data. -/
def rds : (p : Fin 2) → (c : Dev nD) → Pipeline.RDat τ (Elt F) (HIx 1) ℕ UU ℕ (Pipeline.pin (pcfgs (F := F)) adm p) c
  | ⟨0, _⟩ => fun c => rd0 O b V c
  | ⟨1, _⟩ => fun c => rd1 O b V c

/-- The transposition's body meets its obligation. -/
theorem body0 (c : Dev nD) : (rd0 O b V c).BodyObligation (defs₀ (F := F)) 𝒱₀ (none : HIx 1) Set.univ := fun t Y hY => by
  obtain ⟨d0, e0⟩ := ((rd0 O b V c).finds_of_fetch (fetch0_0 t) (Y 0)).mp (hY 0)
  rw [bigSep_W0, bigSep_W0, show (rd0 O b V c).Φ t.castSucc = (rd0 O b V c).Φ t.succ from rfl]
  iintro ⟨HΦ, Howes, H0, H1⟩
  iapply (tp_run c (grid0.coords t) (win0_0.stage (cfg0.slots t 0)) (hstage0_0 ((cfg0.slots t 0).cast nbuf0_0))
    (win0_1.stage (cfg0.slots t 1)) (hstage0_1 ((cfg0.slots t 1).cast nbuf0_1)) (Y 0) (Y 1) _)
  isplitl [H0]; · iexact H0
  isplitl [H1]; · iexact H1
  iintro ⟨H0, H1⟩
  isplitl [HΦ]; · iexact HΦ
  isplitl [Howes]; · iexact Howes
  isplitl [H0]
  · iexists (Y 0); isplitr; · ipureintro; exact trivial
    iexact H0
  iexists (k0_pay1 (Y 0)); isplitr
  · ipureintro; exact ⟨d0, congrArg k0_pay1 e0⟩
  iexact H1

/-- The perceptron's body meets its obligation. -/
theorem body1 (c : Dev nD) : (rd1 O b V c).BodyObligation (defs₀ (F := F)) 𝒱₀ (none : HIx 1) Set.univ := fun t Y hY => by
  obtain rfl := fin_N2 t
  obtain ⟨d0, e0⟩ := ((rd1 O b V c).finds_of_fetch (fetch2_0 t2_0) (Y 0)).mp (hY 0)
  obtain ⟨d1, e1⟩ := ((rd1 O b V c).finds_of_fetch (fetch2_1 t2_0) (Y 1)).mp (hY 1)
  obtain ⟨d2, e2⟩ := ((rd1 O b V c).finds_of_fetch (fetch2_2 t2_0) (Y 2)).mp (hY 2)
  obtain ⟨d3, e3⟩ := ((rd1 O b V c).finds_of_fetch (fetch2_3 t2_0) (Y 3)).mp (hY 3)
  obtain ⟨d4, e4⟩ := ((rd1 O b V c).finds_of_fetch (fetch2_4 t2_0) (Y 4)).mp (hY 4)
  obtain ⟨d5, e5⟩ := ((rd1 O b V c).finds_of_fetch (fetch2_5 t2_0) (Y 5)).mp (hY 5)
  rw [bigSep_W2, bigSep_W2, show (rd1 O b V c).Φ t2_0.castSucc = (rd1 O b V c).Φ t2_0.succ from rfl]
  iintro ⟨HΦ, Howes, H⟩
  iapply (mlp_run c (win2_0.stage (cfg2.slots t2_0 0)) (hstage2_0 0) (win2_1.stage (cfg2.slots t2_0 1)) (hstage2_1 0) (win2_2.stage (cfg2.slots t2_0 2)) (hstage2_2 0)
    (win2_3.stage (cfg2.slots t2_0 3)) (hstage2_3 0) (win2_4.stage (cfg2.slots t2_0 4)) (hstage2_4 0) (win2_5.stage (cfg2.slots t2_0 5)) (hstage2_5 0)
    (win2_6.stage (cfg2.slots t2_0 6)) (hstage2_6 0) (Y 0) (Y 1) (Y 2) (Y 3) (Y 4) (Y 5) (Y 6) _)
  isplitl [H]; · iexact H
  iintro ⟨H0, H1, H2, H3, H4, H5, H6⟩
  isplitl [HΦ]; · iexact HΦ
  isplitl [Howes]; · iexact Howes
  isplitl [H0]
  · iexists (Y 0); isplitr; · ipureintro; exact trivial
    iexact H0
  isplitl [H1]
  · iexists (Y 1); isplitr; · ipureintro; exact trivial
    iexact H1
  isplitl [H2]
  · iexists (Y 2); isplitr; · ipureintro; exact trivial
    iexact H2
  isplitl [H3]
  · iexists (Y 3); isplitr; · ipureintro; exact trivial
    iexact H3
  isplitl [H4]
  · iexists (Y 4); isplitr; · ipureintro; exact trivial
    iexact H4
  isplitl [H5]
  · iexists (Y 5); isplitr; · ipureintro; exact trivial
    iexact H5
  iexists _; isplitr; swap; · iexact H6
  ipureintro
  show mlpVal (Y 0) (Y 1) (Y 2) (Y 3) (Y 4) (Y 5) = mlpOut V c
  rw [e0, e1, e2, e3, e4, e5]
  rfl

end Cert.Proof.Bag

end

end
-- ==== Proof.TcRegions.lean ====
/-
  The two TensorCore calls as regions of @main.
-/
module

public import proofs.«01_k».proof.Proof.TcData
public import Idealize.ShloMosaic.Lib.Pipeline.ArrRel
public import Idealize.ShloMosaic.Lib.Pipeline.ValueKit.Geometry

@[expose] public section

noncomputable section

namespace Cert.Proof.Bag

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ
variable [FloatOps F] (O : Dev nD → CellTallies nD τ sig (HIx 1)) (b : ℕ) (V : Cont F)

/-- The TensorCore owes `O c`, its recorded waits at or below level `b`. -/
def tcOwes (c : Dev nD) : sProp 𝕄 := iprop(∃ W, ⌜(K (F := F)).WBelow (SparseCore.T c) W b⌝ ∗ owes (SparseCore.T c) (O c) W)

theorem owes_in0 (c : Dev nD) (t : Fin (cfg0.N + 1)) : tcOwes O b c ⊢ ((rd0 O b V c).owesAt (none : HIx 1) t : sProp 𝕄) := by
  unfold tcOwes Pipeline.RDat.owesAt Pipeline.owesWithin
  iintro ⟨%W, %hW, H⟩; iexists W; isplitr; · ipureintro; exact fun p hp => Or.inl (hW p hp)
  iexact H

theorem owes_in1 (c : Dev nD) (t : Fin (cfg2.N + 1)) : tcOwes O b c ⊢ ((rd1 O b V c).owesAt (none : HIx 1) t : sProp 𝕄) := by
  unfold tcOwes Pipeline.RDat.owesAt Pipeline.owesWithin
  iintro ⟨%W, %hW, H⟩; iexists W; isplitr; · ipureintro; exact fun p hp => Or.inl (hW p hp)
  iexact H

theorem owes_out0 (c : Dev nD) (t : Fin (cfg0.N + 1)) : ((rd0 O b V c).owesAt (none : HIx 1) t : sProp 𝕄) ⊢ tcOwes O b c := by
  unfold tcOwes Pipeline.RDat.owesAt Pipeline.owesWithin
  iintro ⟨%W, %hW, H⟩; iexists W; isplitr
  · ipureintro
    intro p hp
    rcases hW hp with h | ⟨w, s, rfl⟩
    · exact h
    · exact Nat.zero_le _
  iexact H

theorem owes_out1 (c : Dev nD) (t : Fin (cfg2.N + 1)) : ((rd1 O b V c).owesAt (none : HIx 1) t : sProp 𝕄) ⊢ tcOwes O b c := by
  unfold tcOwes Pipeline.RDat.owesAt Pipeline.owesWithin
  iintro ⟨%W, %hW, H⟩; iexists W; isplitr
  · ipureintro
    intro p hp
    rcases hW hp with h | ⟨w, s, rfl⟩
    · exact h
    · exact Nat.zero_le _
  iexact H

/-- What the packed table may hold after the transposition. -/
def TpOut (c : Dev nD) (f : S1000000x128.Idx → F .f32) : Prop := (rd0 O b V c).ArrAt 1 cfg0.N f

/-- Window `w`'s array held at its share is its buffer held whole. -/
theorem arr0_eq (c : Dev nD) (w : Fin 2) (f : Buf (Elt F) (((cfg0.win w).arr.view).loc (c.tc : Thread nD τ))) :
    (((cfg0.win w).arr.view.loc (c.tc : Thread nD τ)) ↦[(cfg0.win w).arr.view.set]{(rd0 O b V c).share w} f : sProp 𝕄)
      = (((cfg0.win w).arr.view.loc (c.tc : Thread nD τ)) ↦{fullShare} f) := by
  have h1 : (cfg0.win w).arr.view.set = Finset.univ := (arr_whole0 w).set_eq_univ
  have h2 : (rd0 O b V c).share w = fullShare := by unfold Pipeline.RDat.share; split <;> rfl
  rw [h1, h2]

theorem arr1_eq (c : Dev nD) (w : Fin 7) (f : Buf (Elt F) (((cfg2.win w).arr.view).loc (c.tc : Thread nD τ))) :
    (((cfg2.win w).arr.view.loc (c.tc : Thread nD τ)) ↦[(cfg2.win w).arr.view.set]{(rd1 O b V c).share w} f : sProp 𝕄)
      = (((cfg2.win w).arr.view.loc (c.tc : Thread nD τ)) ↦{fullShare} f) := by
  have h1 : (cfg2.win w).arr.view.set = Finset.univ := (arr_whole2 w).set_eq_univ
  have h2 : (rd1 O b V c).share w = fullShare := by unfold Pipeline.RDat.share; split <;> rfl
  rw [h1, h2]

set_option maxRecDepth 4096 in
/-- The transposition's arrays at entry. -/
theorem arrs_in0 (c : Dev nD) :
    iprop((((c.tc : Thread nD τ).loc main_v0) ↦{fullShare} V c main_v0) ∗ (pLoc c ↦{fullShare} V c main_v1))
      ⊢ ((rd0 O b V c).arrays (rd0 O b V c).A : sProp 𝕄) := by
  unfold Pipeline.RDat.arrays
  rw [bigSep_W0]
  rw [arr0_eq, arr0_eq]
  iintro ⟨H0, H1⟩
  isplitl [H0]; · iexact H0
  iexact H1

set_option maxRecDepth 4096 in
/-- The transposition's arrays at exit. -/
theorem arrs_out0 (c : Dev nD) :
    ((rd0 O b V c).arraysAt cfg0.N : sProp 𝕄)
      ⊢ iprop((((c.tc : Thread nD τ).loc main_v0) ↦{fullShare} V c main_v0) ∗ (∃ f : Buf (Elt F) (pLoc c), ⌜TpOut O b V c f⌝ ∗ pLoc c ↦{fullShare} f)) := by
  unfold Pipeline.RDat.arraysAt
  rw [bigSep_W0]
  iintro ⟨⟨%f0, %h0, H0⟩, ⟨%f1, %h1, H1⟩⟩
  ihave H0 := (Entails.of_eq (arr0_eq O b V c 0 f0)) $$ H0
  ihave H1 := (Entails.of_eq (arr0_eq O b V c 1 f1)) $$ H1
  have e0 : f0 = V c main_v0 := (congrFun ((rd0 O b V c).ArrAt_in 0 rfl cfg0.N) f0).mp h0
  rw [e0]
  isplitl [H0]; · iexact H0
  iexists f1; isplitr; · ipureintro; exact h1
  iexact H1

set_option backward.isDefEq.respectTransparency.types false in
/-- The transposition as a region: from the transposed table and the packed table's buffer to some contents it may hold. -/
def reg0 (hO : ∀ c g, O c g none = 0) :
    Pipeline.RDat.RegionSeg (pcfgs (F := F)) adm (rds O b V) (none : HIx 1) (defs₀ (F := F)) 𝒱₀ (K (F := F)).L (K (F := F)).lev 0 where
  win := winFacts0.to₀
  block_pos := block_pos0
  stage_whole := stage_whole0
  K := PEmpty
  osem k := k.elim
  ho := Pipeline.OwnSemFacts.none _
  hbody c := body0 O b V c
  hwaits c := Pipeline.RDat.cellsWaits_intro _ (rds O b V) none 0 c fun w s t => (K (F := F)).mayWait_none _ (hO c)
  pre c := iprop((((c.tc : Thread nD τ).loc main_v0) ↦{fullShare} V c main_v0) ∗ (pLoc c ↦{fullShare} V c main_v1) ∗ tcOwes O b c)
  post c := iprop((((c.tc : Thread nD τ).loc main_v0) ↦{fullShare} V c main_v0) ∗ (∃ f : Buf (Elt F) (pLoc c), ⌜TpOut O b V c f⌝ ∗ pLoc c ↦{fullShare} f)
    ∗ tcOwes O b c)
  X _ := BI.emp
  Y _ := BI.emp
  Z _ := BI.emp
  hentry c := by
    rw [Pipeline.ownSems0_none]
    iintro ⟨⟨H0, H1, HO⟩, -, -⟩
    imodintro
    isplitl [H0 H1]
    · iapply (arrs_in0 O b V c); isplitl [H0] <;> iassumption
    isplitr; · unfold Pipeline.prefHeld; rw [show (Finset.univ : Finset (Fin 0)) = ∅ from rfl, BI.bigSep_empty]; iempintro
    isplitl [HO]; · iapply (owes_in0 O b V c 0) $$ HO
    isplitr; · iempintro
    iempintro
  hin c := by
    rw [show (rds O b V 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (rds O b V 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have h1 : ((rds O b V 0 c).arraysAt (Pipeline.pin (pcfgs (F := F)) adm 0).N : sProp 𝕄) ⊢ _ := arrs_out0 O b V c
    have h2 : ((rds O b V 0 c).owesAt (none : HIx 1) (Fin.last (Pipeline.pin (pcfgs (F := F)) adm 0).N) : sProp 𝕄) ⊢ _ := owes_out0 O b V c (Fin.last cfg0.N)
    iintro ⟨Ha, HO, -, -⟩
    ihave Ha' := h1 $$ Ha
    ihave HO' := h2 $$ HO
    icases Ha' with ⟨H0, H1⟩
    imodintro
    isplitl [H0]; · iexact H0
    isplitl [H1]; · iexact H1
    iexact HO'

set_option maxRecDepth 4096 in
/-- The perceptron's arrays at entry. -/
theorem arrs_in1 (c : Dev nD) :
    iprop((eLoc c ↦{fullShare} V c main_v2_0) ∗ (sLoc c ↦{fullShare} V c main_v2_1)
      ∗ (((c.tc : Thread nD τ).loc main_arg3) ↦{fullShare} V c main_arg3) ∗ (((c.tc : Thread nD τ).loc main_arg4) ↦{fullShare} V c main_arg4)
      ∗ (((c.tc : Thread nD τ).loc main_arg5) ↦{fullShare} V c main_arg5) ∗ (((c.tc : Thread nD τ).loc main_arg6) ↦{fullShare} V c main_arg6)
      ∗ (((c.tc : Thread nD τ).loc main_v3) ↦{fullShare} V c main_v3))
      ⊢ ((rd1 O b V c).arrays (rd1 O b V c).A : sProp 𝕄) := by
  unfold Pipeline.RDat.arrays
  rw [bigSep_W2]
  rw [arr1_eq, arr1_eq, arr1_eq, arr1_eq, arr1_eq, arr1_eq, arr1_eq]
  iintro ⟨H0, H1, H2, H3, H4, H5, H6⟩
  isplitl [H0]; · iexact H0
  isplitl [H1]; · iexact H1
  isplitl [H2]; · iexact H2
  isplitl [H3]; · iexact H3
  isplitl [H4]; · iexact H4
  isplitl [H5]; · iexact H5
  iexact H6

/-- What the result holds once its one block is written back. -/
theorem mlp_out (c : Dev nD) (f : S4096x64.Idx → F .f32) (h : (rd1 O b V c).ArrAt 6 cfg2.N f) : f = mlpOut V c := by
  obtain ⟨X, hX, e⟩ := Pipeline.RDat.ArrAt.emb_eq_of_wholeAt (rd := rd1 O b V c) (w := 6) h (t₀ := t2_0) (by decide +kernel)
  obtain ⟨Y, -, hX⟩ := hX
  funext j
  refine (e j).trans ?_
  rw [show X = mlpOut V c from hX]
  rfl

set_option maxRecDepth 4096 in
/-- The perceptron's arrays at exit. -/
theorem arrs_out1 (c : Dev nD) :
    ((rd1 O b V c).arraysAt cfg2.N : sProp 𝕄)
      ⊢ iprop((((c.tc : Thread nD τ).loc main_arg3) ↦{fullShare} V c main_arg3) ∗ (((c.tc : Thread nD τ).loc main_arg4) ↦{fullShare} V c main_arg4)
      ∗ (((c.tc : Thread nD τ).loc main_arg5) ↦{fullShare} V c main_arg5) ∗ (((c.tc : Thread nD τ).loc main_arg6) ↦{fullShare} V c main_arg6)
      ∗ (((c.tc : Thread nD τ).loc main_v3) ↦{fullShare} mlpOut V c)) := by
  unfold Pipeline.RDat.arraysAt
  rw [bigSep_W2]
  iintro ⟨-, -, ⟨%f2, %h2, H2⟩, ⟨%f3, %h3, H3⟩, ⟨%f4, %h4, H4⟩, ⟨%f5, %h5, H5⟩, ⟨%f6, %h6, H6⟩⟩
  ihave H2 := (Entails.of_eq (arr1_eq O b V c 2 f2)) $$ H2
  ihave H3 := (Entails.of_eq (arr1_eq O b V c 3 f3)) $$ H3
  ihave H4 := (Entails.of_eq (arr1_eq O b V c 4 f4)) $$ H4
  ihave H5 := (Entails.of_eq (arr1_eq O b V c 5 f5)) $$ H5
  ihave H6 := (Entails.of_eq (arr1_eq O b V c 6 f6)) $$ H6
  have e2 : f2 = V c main_arg3 := (congrFun ((rd1 O b V c).ArrAt_in 2 rfl cfg2.N) f2).mp h2
  have e3 : f3 = V c main_arg4 := (congrFun ((rd1 O b V c).ArrAt_in 3 rfl cfg2.N) f3).mp h3
  have e4 : f4 = V c main_arg5 := (congrFun ((rd1 O b V c).ArrAt_in 4 rfl cfg2.N) f4).mp h4
  have e5 : f5 = V c main_arg6 := (congrFun ((rd1 O b V c).ArrAt_in 5 rfl cfg2.N) f5).mp h5
  have e6 : f6 = mlpOut V c := mlp_out O b V c f6 h6
  rw [e2, e3, e4, e5, e6]
  isplitl [H2]; · iexact H2
  isplitl [H3]; · iexact H3
  isplitl [H4]; · iexact H4
  isplitl [H5]; · iexact H5
  iexact H6

set_option backward.isDefEq.respectTransparency.types false in
/-- The perceptron as a region: from its operands and its result's buffer to the result `mlpOut`. -/
def reg1 (hO : ∀ c g, O c g none = 0) :
    Pipeline.RDat.RegionSeg (pcfgs (F := F)) adm (rds O b V) (none : HIx 1) (defs₀ (F := F)) 𝒱₀ (K (F := F)).L (K (F := F)).lev 1 where
  win := winFacts2.to₀
  block_pos := block_pos2
  stage_whole := stage_whole2
  K := PEmpty
  osem k := k.elim
  ho := Pipeline.OwnSemFacts.none _
  hbody c := body1 O b V c
  hwaits c := Pipeline.RDat.cellsWaits_intro _ (rds O b V) none 1 c fun w s t => (K (F := F)).mayWait_none _ (hO c)
  pre c := iprop(((eLoc c ↦{fullShare} V c main_v2_0) ∗ (sLoc c ↦{fullShare} V c main_v2_1)
      ∗ (((c.tc : Thread nD τ).loc main_arg3) ↦{fullShare} V c main_arg3) ∗ (((c.tc : Thread nD τ).loc main_arg4) ↦{fullShare} V c main_arg4)
      ∗ (((c.tc : Thread nD τ).loc main_arg5) ↦{fullShare} V c main_arg5) ∗ (((c.tc : Thread nD τ).loc main_arg6) ↦{fullShare} V c main_arg6)
      ∗ (((c.tc : Thread nD τ).loc main_v3) ↦{fullShare} V c main_v3)) ∗ tcOwes O b c)
  post c := iprop(((((c.tc : Thread nD τ).loc main_arg3) ↦{fullShare} V c main_arg3) ∗ (((c.tc : Thread nD τ).loc main_arg4) ↦{fullShare} V c main_arg4)
      ∗ (((c.tc : Thread nD τ).loc main_arg5) ↦{fullShare} V c main_arg5) ∗ (((c.tc : Thread nD τ).loc main_arg6) ↦{fullShare} V c main_arg6)
      ∗ (((c.tc : Thread nD τ).loc main_v3) ↦{fullShare} mlpOut V c)) ∗ tcOwes O b c)
  X _ := BI.emp
  Y _ := BI.emp
  Z _ := BI.emp
  hentry c := by
    rw [Pipeline.ownSems0_none]
    iintro ⟨⟨H, HO⟩, -, -⟩
    imodintro
    isplitl [H]; · iapply (arrs_in1 O b V c) $$ H
    isplitr; · unfold Pipeline.prefHeld; rw [show (Finset.univ : Finset (Fin 0)) = ∅ from rfl, BI.bigSep_empty]; iempintro
    isplitl [HO]; · iapply (owes_in1 O b V c 0) $$ HO
    isplitr; · iempintro
    iempintro
  hin c := by
    rw [show (rds O b V 1 c).Φ 0 = Pipeline.scopedRest (Ix := HIx 1) (Name := ℕ) (U := UU) (Lvl := ℕ) (Val := Elt F) spec2 c from rfl]
    iintro ⟨-, -, Hr⟩; iexact Hr
  hout c := by
    rw [Pipeline.ownSems0_none, show (rds O b V 1 c).Φ (Fin.last _) = Pipeline.scopedRest (Ix := HIx 1) (Name := ℕ) (U := UU) (Lvl := ℕ) (Val := Elt F) spec2 c from rfl]
    iintro Hr
    isplitr; · iempintro
    isplitr; · iempintro
    iexact Hr
  hexit c := by
    have h1 : ((rds O b V 1 c).arraysAt (Pipeline.pin (pcfgs (F := F)) adm 1).N : sProp 𝕄) ⊢ _ := arrs_out1 O b V c
    have h2 : ((rds O b V 1 c).owesAt (none : HIx 1) (Fin.last (Pipeline.pin (pcfgs (F := F)) adm 1).N) : sProp 𝕄) ⊢ _ := owes_out1 O b V c (Fin.last cfg2.N)
    iintro ⟨Ha, HO, -, -⟩
    ihave Ha' := h1 $$ Ha
    ihave HO' := h2 $$ HO
    imodintro
    isplitl [Ha']; · iexact Ha'
    iexact HO'

end Cert.Proof.Bag

end

end
-- ==== Proof.Gather.lean ====
/-
  One indirect gather of the packed table's rows by a vector subcore: what the rows hold (`gatherPayload_rowAt`), and
  the step itself (`wp_gather`): the enqueue leaves a transfer in flight that delivers, at its wait, the row buffer
  holding the named rows, the share of the table and the share of the list.
-/
module

public import proofs.«01_k».proof.Proof.Setup

@[expose] public section

noncomputable section

namespace Cert.Proof.Bag

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ
/-- The packed table, as a vector subcore names it. -/
abbrev pV : Memref sig Kind.scVector Space.hbm S1000000x128 EltTy.f32 := Memref.whole main_v1_scv

/-- All of the packed table, as a task addresses it. -/
abbrev pAllK : Memref sig .scVector .hbm S1000000x128 .f32 :=
  (pV).slice (Rect.unit (s := S1000000x128) ![0, 0] S1000000x128.size inb_S1000000x128_S1000000x128_0_0) (fun _ => rfl)

/-- Position `k` of a list is its index `k`. -/
theorem symm_list {n : ℕ} (k : Fin (⟨1, ![n]⟩ : Shape).numel) (h : k.val < n) :
    (⟨1, ![n]⟩ : Shape).rowMajor.symm k = ix1 ⟨k.val, h⟩ :=
  ((⟨1, ![n]⟩ : Shape).rowMajor.symm_apply_eq).2 (Fin.ext (by rw [Shape.rowMajor_val_one]; rfl))

/-- All of the table, sliced whole, reads as itself. -/
theorem read_pAllK (f : S1000000x128.Idx → F .f32) : (pAllK).view.read (Elt F) f = f := by
  funext x
  rw [View.read_apply]
  refine (cast_eq _ _).trans (congrArg f ?_)
  funext a
  refine Fin.ext ?_
  show (![0, 0] : Fin 2 → ℕ) a + 1 * (x a).val = (x a).val
  match a with
  | 0 => simp
  | 1 => simp

/-- What an indirect gather writes: at row `x 0` the row of the table named by word `x 0` of the list. -/
theorem gatherPayload_rowAt {n : ℕ} (hg : S1000000x128.Gathers 0 ⟨2, ![n, 128]⟩) (f : S1000000x128.Idx → F .f32)
    (l : (⟨1, ![n]⟩ : Shape).Idx → Elt F .i32) (hn : (⟨1, ![n]⟩ : Shape).numel = (⟨2, ![n, 128]⟩ : Shape).size hg.axis')
    (hin : ∀ x, (l x).toNat < S1000000x128.size hg.axis) (x : (⟨2, ![n, 128]⟩ : Shape).Idx) :
    (SparseCore.gatherPayload (F := F) (e := .f32) hg f (SparseCore.rows l hn hin) x : F .f32) = rowAt f (l (ix1 (x 0))) (x 1) := by
  unfold SparseCore.gatherPayload rowAt
  refine congrArg f ?_
  funext b
  refine Fin.ext ?_
  match b with
  | 0 =>
    have e := congrArg Fin.val (Shape.Gathers.idx_axis hg (SparseCore.rows l hn hin) x)
    refine e.trans ?_
    show (l ((⟨1, ![n]⟩ : Shape).rowMajor.symm _)).toNat = (rowOfWord (l (ix1 (x 0)))).val
    rw [symm_list _ (x 0).isLt]
    exact (Nat.mod_eq_of_lt (hin _)).symm
  | 1 => exact Shape.Gathers.idx_of_ne hg (SparseCore.rows l hn hin) x 1 (by decide)

variable [FloatOps F]

/-- The enqueue of an indirect gather of `n` rows of the packed table, its semaphore at zero: the transfer is in flight,
    and delivers the row buffer at the rows that `wd` names, the share of the table and the share of the list. -/
theorem wp_gather {n : ℕ} {thr : Thread nD τ} (hthr : thr.2.kind = .scVector) (pM : Memref sig thr.2.kind .hbm S1000000x128 .f32)
    (dst : Memref sig thr.2.kind .vmem ⟨2, ![n, 128]⟩ .f32) (hset : dst.view.set = Finset.univ) (hpset : pM.view.set = Finset.univ)
    (offs : Memref sig thr.2.kind .vmem ⟨1, ![n]⟩ .i32) (hg : S1000000x128.Gathers 0 ⟨2, ![n, 128]⟩)
    (hn : (⟨1, ![n]⟩ : Shape).numel = (⟨2, ![n, 128]⟩ : Shape).size hg.axis') (sem : DmaSem sig)
    {hsrc : pM.view.WordExact} {he : EltTy.f32.bits = 32} {hsp : Space.hbm = .hbm ∨ Space.hbm = .shared} {hr : S1000000x128.StreamRows 0}
    {α : Type} {k : PUnit → Prog (TpuEff nD τ sig (Elt F) Λ₀ thr.2) α} {Q : α → sProp 𝕄}
    (q qo : PosShare TreeShare) (fp : Buf (Elt F) (pM.view.loc thr)) (f : S1000000x128.Idx → F .f32) (hf : pM.view.read (Elt F) fp = f)
    (fd : Buf (Elt F) (dst.view.loc thr)) (fo : Buf (Elt F) (offs.view.loc thr))
    (wd : ℕ → BitVec 32) (hwd : ∀ x, offs.view.read (Elt F) fo x = wd (x 0).val) (hlt : ∀ i, (wd i).toNat < 1000000)
    (hN : ∑ j, (dst.slice ((⟨2, ![n, 128]⟩ : Shape).rowRect hg.axis' j) ((⟨2, ![n, 128]⟩ : Shape).stride_rowRect hg.axis' j)).view.dmaCredit = dst.view.dmaCredit)
    (hs : 0 < (⟨2, ![n, 128]⟩ : Shape).numel) :
    iprop((pM.view.loc thr ↦{q} fp) ∗ (dst.view.loc thr ↦{fullShare} fd)
        ∗ (offs.view.loc thr ↦[offs.view.set]{qo} fo) ∗ semVal (thr, SemLoc.dma sem) 0)
      ⊢ iprop((Transfers.Flight countersEmb thr (.dma sem) (default : HIx 1) dst.view.dmaCredit
                iprop((∃ g : Buf (Elt F) (dst.view.loc thr), ⌜∀ x, dst.view.read (Elt F) g x = rowAt f (wd (x 0).val) (x 1)⌝ ∗ dst.view.loc thr ↦{fullShare} g)
                  ∗ (pM.view.loc thr ↦{q} fp) ∗ (offs.view.loc thr ↦[offs.view.set]{qo} fo))
              -∗ wp frame (wpE (defs₀ (F := F)) 𝒱₀ thr none) Set.univ (k ⟨⟩) Q)
          -∗ wp frame (wpE (defs₀ (F := F)) 𝒱₀ thr none) Set.univ
              (SparseCore.enqueueIndirectGather hthr pM dst hg offs hn sem hsrc he hsp hr >>= k) Q) := by
  have hin : ∀ x, (offs.view.read (Elt F) fo x).toNat < S1000000x128.size hg.axis := fun x => by rw [hwd]; exact hlt _
  iintro ⟨Hp, Hd, Ho, Hs⟩ Hk
  ihave Hp' := (Entails.of_eq (show (pM.view.loc thr ↦{q} fp : sProp 𝕄) = pM.view.loc thr ↦[pM.view.set]{q} fp by rw [hpset])) $$ Hp
  ihave Hd' := (Entails.of_eq (show (dst.view.loc thr ↦{fullShare} fd : sProp 𝕄) = dst.view.loc thr ↦[dst.view.set]{fullShare} fd by rw [hset])) $$ Hd
  iapply (SparseCore.wp_indirectGatherLocal countersEmb 𝒱₀ thr none (hg := hg) (default : HIx 1) dst.view.dmaCredit hN hs hin) $$ [Hp' Hd' Ho Hs]
  · isplitl [Hp']; · iexact Hp'
    isplitl [Hd']; · iexact Hd'
    isplitl [Ho]; · iexact Ho
    iexact Hs
  iintro Hfl
  iapply Hk
  iapply (Transfers.Flight_mono countersEmb thr (show iprop((dst.view.loc thr ↦[dst.view.set]{fullShare}
                        (dst.view.write (Elt F) fd (SparseCore.gatherPayload hg (pM.view.read (Elt F) fp) (SparseCore.rows (offs.view.read (Elt F) fo) hn hin)) Finset.univ))
                  ∗ (pM.view.loc thr ↦[pM.view.set]{q} fp) ∗ (offs.view.loc thr ↦[offs.view.set]{qo} fo))
      ⊢ (iprop((∃ g : Buf (Elt F) (dst.view.loc thr), ⌜∀ x, dst.view.read (Elt F) g x = rowAt f (wd (x 0).val) (x 1)⌝ ∗ dst.view.loc thr ↦{fullShare} g)
                  ∗ (pM.view.loc thr ↦{q} fp) ∗ (offs.view.loc thr ↦[offs.view.set]{qo} fo)) : sProp 𝕄) from ?_)) $$ Hfl
  iintro ⟨Hd, Hp, Ho⟩
  isplitl [Hd]
  · iexists _; isplitr
    swap
    · rw [hset]; iexact Hd
    · ipureintro
      intro x
      rw [View.read_write_univ, hf, gatherPayload_rowAt, hwd]
      rfl
  isplitl [Hp]; · rw [hpset]; iexact Hp
  iexact Ho

end Cert.Proof.Bag

end

end
-- ==== Proof.Loops.lean ====
/-
  The two inner loops of a vector subcore's task: each adds the 112 rows of one row buffer to the four running sums of
  sixteen lanes.
-/
module

public import proofs.«01_k».proof.Proof.Gather
public import Idealize.ShloMosaic.Lib.ValueLayout

@[expose] public section

noncomputable section

namespace Cert.Proof.Bag

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ
/-! ## The buffers as a task names them -/

abbrev inV : Memref sig Kind.scVector Space.hbm S204800 EltTy.i32 := Memref.whole main_arg0_scv
abbrev eV : Memref sig Kind.scVector Space.hbm S4096x128 EltTy.f32 := Memref.whole main_v2_0_scv
abbrev sV : Memref sig Kind.scVector Space.hbm S32x128 EltTy.f32 := Memref.whole main_v2_1_scv
abbrev iaV : Memref sig Kind.scVector Space.vmem S128 EltTy.i32 := Memref.whole cc1_scratch0
abbrev baV : Memref sig Kind.scVector Space.vmem S128x128 EltTy.f32 := Memref.whole cc1_scratch1
abbrev ibV : Memref sig Kind.scVector Space.vmem S6272 EltTy.i32 := Memref.whole cc1_scratch2
abbrev b0V : Memref sig Kind.scVector Space.vmem S112x128 EltTy.f32 := Memref.whole cc1_scratch3
abbrev b1V : Memref sig Kind.scVector Space.vmem S112x128 EltTy.f32 := Memref.whole cc1_scratch4
abbrev acV : Memref sig Kind.scVector Space.vmem S128 EltTy.f32 := Memref.whole cc1_scratch5

abbrev cV (L : grid1.Coords) : Fin τ.nSC := (L 0).castLE hcore1
abbrev jV (L : grid1.Coords) : Fin τ.nSub := (L 1).castLE hsub1
/-- The task's thread. -/
abbrev VT (d : Dev nD) (L : grid1.Coords) : Thread nD τ := V d (cV L) (jV L)

variable [FloatOps F] (m : (ℓ : Loc nD τ sig) → Buf (Elt F) ℓ)

/-! ## The running sums -/

/-- Lanes `16 k` to `16 k + 15` of the running sum after `n` rows. -/
def lane (f : S1000000x128.Idx → F .f32) (d : Dev nD) (base n : ℕ) (k : Fin 4) : FVec F S16 .f32 :=
  fun x => accN m f d base n ⟨16 * k.val + (x 0).val, by have := idx_lt16 x; omega⟩
where
  idx_lt16 (x : S16.Idx) : (x 0).val < 16 := (x 0).isLt

/-- The four carried vectors after `n` rows. -/
def lanes (f : S1000000x128.Idx → F .f32) (d : Dev nD) (base n : ℕ) : FVec F S16 .f32 × FVec F S16 .f32 × FVec F S16 .f32 × FVec F S16 .f32 :=
  (lane m f d base n 0, lane m f d base n 1, lane m f d base n 2, lane m f d base n 3)

/-- A row buffer that holds the 112 rows named from word `start` on. -/
def RowsAt (f : S1000000x128.Idx → F .f32) (d : Dev nD) (start : ℕ) (g : S112x128.Idx → F .f32) : Prop :=
  ∀ x : S112x128.Idx, g x = rowAt f (inp m d (start + (x 0).val)) (x 1)

/-- One row's addition in one group of sixteen lanes: the loaded row added to the sums after `J + k` rows is the sums
    after one row more. -/
theorem lane_step {κ : Kind} {sp : Space} (v : View sig κ sp S112x128 .f32) (gv : v.ty.Contents (Elt F)) (f : S1000000x128.Idx → F .f32) (d : Dev nD)
    (base J : ℕ) (hg : RowsAt m f d (base + J) (v.read (Elt F) gv)) (k : ℕ) (hk : k < 112) (c : Fin 4) (off : Fin 2 → ℕ)
    (hoff : off = ![k, 16 * c.val]) (inb : ∀ a, off a + S1x16.size a ≤ S112x128.size a) :
    addf (lane m f d base (J + k) c)
        (shapeCast S16 (v.readAt (Elt F) (Rect.unit (s := S112x128) off S1x16.size inb).toLoadRect gv) shapeCasts_S1x16_S16)
      = lane m f d base (J + (k + 1)) c := by
  subst hoff
  funext x
  obtain ⟨i, rfl⟩ : ∃ i : Fin 16, x = ix1 i := ⟨x 0, eq_ix1 x⟩
  have e : shapeCast S16 (v.readAt (Elt F) (Rect.unit (s := S112x128) ![k, 16 * c.val] S1x16.size inb).toLoadRect gv) shapeCasts_S1x16_S16 (ix1 i)
      = rowAt f (inp m d (base + (J + k))) ⟨16 * c.val + i.val, by omega⟩ := by
    rw [shapeCast_1a_a_apply]
    refine ((View.readAt_apply (v := v) (Val := Elt F) _ gv _).trans (hg _)).trans ?_
    have e0 : (((Rect.unit (s := S112x128) ![k, 16 * c.val] S1x16.size inb).toLoadRect.idx (ix2 (0 : Fin 1) i)) 0).val = k := by
      show k + 1 * 0 = k; omega
    have e1 : ((Rect.unit (s := S112x128) ![k, 16 * c.val] S1x16.size inb).toLoadRect.idx (ix2 (0 : Fin 1) i)) 1
        = (⟨16 * c.val + i.val, by omega⟩ : Fin 128) := Fin.ext (by show 16 * c.val + 1 * i.val = _; simp)
    rw [e0, e1, Nat.add_assoc]
  exact congrArg (FloatOps.addf (lane m f d base (J + k) c (ix1 i))) e

variable (d : Dev nD) (L : grid1.Coords)

/-- The invariant of the first inner loop: the buffer untouched, the sums after `J + k` rows. -/
def inv2 (f : S1000000x128.Idx → F .f32) (base J : ℕ) (g : S112x128.Idx → F .f32) (k : ℕ)
    (s : FVec F S16 .f32 × FVec F S16 .f32 × FVec F S16 .f32 × FVec F S16 .f32) : sProp 𝕄 :=
  iprop(⌜s = lanes m f d base (J + k)⌝ ∗ ((b0V).view.loc (VT d L) ↦{fullShare} g))

set_option maxHeartbeats 1000000 in
/-- The first inner loop: from the sums after `J` rows to the sums after `J + 112`. -/
theorem wp_t2 (f : S1000000x128.Idx → F .f32) (base J : ℕ) (g : S112x128.Idx → F .f32) (hg : RowsAt m f d (base + J) g)
    {Q : FVec F S16 .f32 × FVec F S16 .f32 × FVec F S16 .f32 × FVec F S16 .f32 → sProp 𝕄} :
    iprop(((b0V).view.loc (VT d L) ↦{fullShare} g)
        ∗ (((b0V).view.loc (VT d L) ↦{fullShare} g) -∗ Q (lanes m f d base (J + 112))))
      ⊢ wp frame (wpE (defs₀ (F := F)) 𝒱₀ (VT d L) none) Set.univ
          (Scf.Loop.for k1_t2_loop k1_t2_ok (lanes m f d base J) (k1_t2_body L inV (Memref.isWhole_whole _) pV (Memref.isWhole_whole _) eV (Memref.isWhole_whole _) sV (Memref.isWhole_whole _)
            iaV (Memref.isWhole_whole _) baV (Memref.isWhole_whole _) ibV (Memref.isWhole_whole _) b0V (Memref.isWhole_whole _)
            b1V (Memref.isWhole_whole _) acV (Memref.isWhole_whole _) cc1_scratch6 cc1_scratch7 cc1_scratch8 cc1_scoped0 cc1_scoped1 cc1_scoped2 cc1_scoped3)) Q := by
  iintro ⟨Hb, HQ⟩
  sl_for (inv2 m d L f base J g) $$ [Hb HQ]
  case region =>
    rintro k ⟨s0, s1, s2, s3⟩
    unfold inv2
    iintro ⟨%hs, Hb⟩
    sl_exec
    sl_step
    isplitr
    · ipureintro
      obtain ⟨rfl, rfl, rfl, rfl⟩ : s0 = lane m f d base (J + k.val) 0 ∧ s1 = lane m f d base (J + k.val) 1
          ∧ s2 = lane m f d base (J + k.val) 2 ∧ s3 = lane m f d base (J + k.val) 3 := by
        simpa only [lanes, Prod.mk.injEq] using hs
      have hk : k.val < 112 := k.isLt
      refine Prod.ext ?_ (Prod.ext ?_ (Prod.ext ?_ ?_))
      · exact lane_step m (b0V).view g f d base J hg k.val hk 0 _ (k1_off6_eq k) _
      · exact lane_step m (b0V).view g f d base J hg k.val hk 1 _ (k1_off7_eq k) _
      · exact lane_step m (b0V).view g f d base J hg k.val hk 2 _ (k1_off8_eq k) _
      · exact lane_step m (b0V).view g f d base J hg k.val hk 3 _ (k1_off9_eq k) _
    · iexact Hb
  isplitl [Hb]
  · unfold inv2
    isplitr
    · ipureintro; rfl
    · iexact Hb
  iintro %s HI
  unfold inv2
  icases HI with ⟨%hs, Hb⟩
  have e : Scf.trips k1_t2_loop.lb k1_t2_loop.ub k1_t2_loop.st = 112 := by decide
  subst hs
  rw [e]
  iapply HQ
  iexact Hb

/-- The invariant of the second inner loop: the buffer untouched, the sums after `J + k` rows. -/
def inv3 (f : S1000000x128.Idx → F .f32) (base J : ℕ) (g : S112x128.Idx → F .f32) (k : ℕ)
    (s : FVec F S16 .f32 × FVec F S16 .f32 × FVec F S16 .f32 × FVec F S16 .f32) : sProp 𝕄 :=
  iprop(⌜s = lanes m f d base (J + k)⌝ ∗ ((b1V).view.loc (VT d L) ↦{fullShare} g))

set_option maxHeartbeats 1000000 in
/-- The second inner loop: from the sums after `J` rows to the sums after `J + 112`. -/
theorem wp_t3 (f : S1000000x128.Idx → F .f32) (base J : ℕ) (g : S112x128.Idx → F .f32) (hg : RowsAt m f d (base + J) g)
    {Q : FVec F S16 .f32 × FVec F S16 .f32 × FVec F S16 .f32 × FVec F S16 .f32 → sProp 𝕄} :
    iprop(((b1V).view.loc (VT d L) ↦{fullShare} g)
        ∗ (((b1V).view.loc (VT d L) ↦{fullShare} g) -∗ Q (lanes m f d base (J + 112))))
      ⊢ wp frame (wpE (defs₀ (F := F)) 𝒱₀ (VT d L) none) Set.univ
          (Scf.Loop.for k1_t3_loop k1_t3_ok (lanes m f d base J) (k1_t3_body L inV (Memref.isWhole_whole _) pV (Memref.isWhole_whole _) eV (Memref.isWhole_whole _) sV (Memref.isWhole_whole _)
            iaV (Memref.isWhole_whole _) baV (Memref.isWhole_whole _) ibV (Memref.isWhole_whole _) b0V (Memref.isWhole_whole _)
            b1V (Memref.isWhole_whole _) acV (Memref.isWhole_whole _) cc1_scratch6 cc1_scratch7 cc1_scratch8 cc1_scoped0 cc1_scoped1 cc1_scoped2 cc1_scoped3)) Q := by
  iintro ⟨Hb, HQ⟩
  sl_for (inv3 m d L f base J g) $$ [Hb HQ]
  case region =>
    rintro k ⟨s0, s1, s2, s3⟩
    unfold inv3
    iintro ⟨%hs, Hb⟩
    sl_exec
    sl_step
    isplitr
    · ipureintro
      obtain ⟨rfl, rfl, rfl, rfl⟩ : s0 = lane m f d base (J + k.val) 0 ∧ s1 = lane m f d base (J + k.val) 1
          ∧ s2 = lane m f d base (J + k.val) 2 ∧ s3 = lane m f d base (J + k.val) 3 := by
        simpa only [lanes, Prod.mk.injEq] using hs
      have hk : k.val < 112 := k.isLt
      refine Prod.ext ?_ (Prod.ext ?_ (Prod.ext ?_ ?_))
      · exact lane_step m (b1V).view g f d base J hg k.val hk 0 _ (k1_off11_eq k) _
      · exact lane_step m (b1V).view g f d base J hg k.val hk 1 _ (k1_off12_eq k) _
      · exact lane_step m (b1V).view g f d base J hg k.val hk 2 _ (k1_off13_eq k) _
      · exact lane_step m (b1V).view g f d base J hg k.val hk 3 _ (k1_off14_eq k) _
    · iexact Hb
  isplitl [Hb]
  · unfold inv3
    isplitr
    · ipureintro; rfl
    · iexact Hb
  iintro %s HI
  unfold inv3
  icases HI with ⟨%hs, Hb⟩
  have e : Scf.trips k1_t3_loop.lb k1_t3_loop.ub k1_t3_loop.st = 112 := by decide
  subst hs
  rw [e]
  iapply HQ
  iexact Hb

end Cert.Proof.Bag

end

end
-- ==== Proof.Trip.lean ====
/-
  The outer loop of a vector subcore's task: each trip issues the gather of an odd chunk into the second row buffer,
  waits for the even chunk in the first, adds its 112 rows, issues the gather of the next even chunk while there is one,
  waits for the odd chunk and adds its rows. `inv1` is its invariant, `wp_trip` one trip.
-/
module

public import proofs.«01_k».proof.Proof.Loops

@[expose] public section

noncomputable section

namespace Cert.Proof.Bag

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ
variable [FloatOps F] (m : (ℓ : Loc nD τ sig) → Buf (Elt F) ℓ) (d : Dev nD) (L : grid1.Coords)

theorem set_pAllK : (pAllK).view.set = Finset.univ := by
  refine Finset.eq_univ_iff_forall.mpr fun y => ?_
  have e : (pAllK).view.emb y = y := by
    funext a
    refine Fin.ext ?_
    show (![0, 0] : Fin 2 → ℕ) a + 1 * (y a).val = (y a).val
    match a with
    | 0 => simp
    | 1 => simp
  exact e ▸ View.emb_mem_set _ y

/-- The list of a chunk, read: word `i` of the chunk that starts at `s`. -/
theorem read_chunk (base s : ℕ) (fo : S6272.Idx → BitVec 32) (hfo : ∀ x, fo x = inp m d (base + (x 0).val)) (off : Fin 1 → ℕ)
    (inb : ∀ a, off a + S112.size a ≤ S6272.size a) (hoff : off = ![s]) (x : S112.Idx) :
    ((ibV).slice (Rect.unit (s := S6272) off S112.size inb) (fun _ => rfl)).view.read (Elt F) fo x = inp m d (base + s + (x 0).val) := by
  subst hoff
  rw [View.read_apply]
  refine (cast_eq _ _).trans ((hfo _).trans ?_)
  show inp m d (base + (s + 1 * (x 0).val)) = _
  congr 1; omega

/-- The credit of a row buffer of 112 rows. -/
abbrev credit0 : ℕ := (b0V).view.dmaCredit
abbrev credit1 : ℕ := (b1V).view.dmaCredit

/-- The first row buffer's gather in flight, of the chunk that starts at word `start`: it delivers the rows, a share of
    the packed table and a share of the chunk's words. The share of the other words lies beside it. -/
def busy0 (f : S1000000x128.Idx → F .f32) (fo : S6272.Idx → BitVec 32) (q qo : PosShare TreeShare) (start : ℕ) : sProp 𝕄 :=
  iprop(∃ I : Finset S6272.Idx, Transfers.Flight countersEmb (VT d L) (.dma cc1_scratch7.sem) (default : HIx 1) (b0V).view.dmaCredit
      iprop((∃ g : Buf (Elt F) ((b0V).view.loc (VT d L)), ⌜∀ x, (b0V).view.read (Elt F) g x = rowAt f (inp m d (start + (x 0).val)) (x 1)⌝ ∗ (b0V).view.loc (VT d L) ↦{fullShare} g)
        ∗ ((pAllK).view.loc (VT d L) ↦{q} f) ∗ ((ibV).view.loc (VT d L) ↦[I]{qo} fo))
    ∗ ((ibV).view.loc (VT d L) ↦[Finset.univ \ I]{qo} fo))

/-- The second row buffer's gather in flight, of the chunk that starts at word `start`: it delivers the rows, a share of
    the packed table and a share of the chunk's words. The share of the other words lies beside it. -/
def busy1 (f : S1000000x128.Idx → F .f32) (fo : S6272.Idx → BitVec 32) (q qo : PosShare TreeShare) (start : ℕ) : sProp 𝕄 :=
  iprop(∃ I : Finset S6272.Idx, Transfers.Flight countersEmb (VT d L) (.dma cc1_scratch8.sem) (default : HIx 1) (b1V).view.dmaCredit
      iprop((∃ g : Buf (Elt F) ((b1V).view.loc (VT d L)), ⌜∀ x, (b1V).view.read (Elt F) g x = rowAt f (inp m d (start + (x 0).val)) (x 1)⌝ ∗ (b1V).view.loc (VT d L) ↦{fullShare} g)
        ∗ ((pAllK).view.loc (VT d L) ↦{q} f) ∗ ((ibV).view.loc (VT d L) ↦[I]{qo} fo))
    ∗ ((ibV).view.loc (VT d L) ↦[Finset.univ \ I]{qo} fo))

/-- The first row buffer at rest, with the shares its gather takes and its semaphore at zero. -/
def idle0 (f : S1000000x128.Idx → F .f32) (fo : S6272.Idx → BitVec 32) (q qo : PosShare TreeShare) : sProp 𝕄 :=
  iprop((∃ g : Buf (Elt F) ((b0V).view.loc (VT d L)), (b0V).view.loc (VT d L) ↦{fullShare} g)
    ∗ ((pAllK).view.loc (VT d L) ↦{q} f) ∗ ((ibV).view.loc (VT d L) ↦{qo} fo) ∗ semVal (VT d L, SemLoc.dma cc1_scratch7.sem) 0)

/-- The second row buffer at rest. -/
def idle1 (f : S1000000x128.Idx → F .f32) (fo : S6272.Idx → BitVec 32) (q qo : PosShare TreeShare) : sProp 𝕄 :=
  iprop((∃ g : Buf (Elt F) ((b1V).view.loc (VT d L)), (b1V).view.loc (VT d L) ↦{fullShare} g)
    ∗ ((pAllK).view.loc (VT d L) ↦{q} f) ∗ ((ibV).view.loc (VT d L) ↦{qo} fo) ∗ semVal (VT d L, SemLoc.dma cc1_scratch8.sem) 0)

/-- The waits a task has recorded: the ones it came with, and its own. -/
def recorded (O : CellTallies nD τ sig (HIx 1)) (W : Waits sig (HIx 1)) : sProp 𝕄 :=
  iprop(∃ W', ⌜∀ p ∈ W', p ∈ W ∨ p.2 = none⌝ ∗ owes (VT d L) O W')

/-- The invariant of the outer loop before trip `k`: the sums of the first `2 k` chunks, chunk `2 k` in flight while
    there is one. -/
def inv1 (f : S1000000x128.Idx → F .f32) (fo : S6272.Idx → BitVec 32) (base : ℕ) (q0 q1 qo0 qo1 : PosShare TreeShare)
    (O : CellTallies nD τ sig (HIx 1)) (W : Waits sig (HIx 1)) (k : ℕ)
    (s : FVec F S16 .f32 × FVec F S16 .f32 × FVec F S16 .f32 × FVec F S16 .f32) : sProp 𝕄 :=
  iprop(⌜s = lanes m f d base (224 * k)⌝ ∗ Transfers.MayWaits (VT d L) (default : HIx 1) O
    ∗ (if k < 28 then busy0 m d L f fo q0 qo0 (base + 224 * k) else idle0 d L f fo q0 qo0)
    ∗ idle1 d L f fo q1 qo1
    ∗ recorded (F := F) d L O W)

theorem credit_rows0 : ∀ h : S1000000x128.Gathers 0 S112x128,
    ∑ j, ((b0V).slice (S112x128.rowRect h.axis' j) (S112x128.stride_rowRect h.axis' j)).view.dmaCredit = (b0V).view.dmaCredit := by decide
theorem credit_rows1 : ∀ h : S1000000x128.Gathers 0 S112x128,
    ∑ j, ((b1V).slice (S112x128.rowRect h.axis' j) (S112x128.stride_rowRect h.axis' j)).view.dmaCredit = (b1V).view.dmaCredit := by decide

/-- Every word of the list names a row. -/
theorem inp_lt (hpre : PreOK m) (n : ℕ) : (inp m d n).toNat < 1000000 := hpre d _

set_option maxHeartbeats 2000000 in
/-- The issue of a gather into the first row buffer. -/
theorem wp_issue0 (hpre : PreOK m) (f : S1000000x128.Idx → F .f32) (fo : S6272.Idx → BitVec 32) (base s : ℕ) (q qo : PosShare TreeShare)
    (hfo : ∀ x, fo x = inp m d (base + (x 0).val)) (off : Fin 1 → ℕ) (inb : ∀ a, off a + S112.size a ≤ S6272.size a) (hoff : off = ![s])
    {hsrc : (pAllK).view.WordExact} {he : EltTy.f32.bits = 32} {hsp : Space.hbm = .hbm ∨ Space.hbm = .shared} {hr : S1000000x128.StreamRows 0}
    {hn : S112.numel = S112x128.size gathers_S1000000x128_S112x128.axis'} {hp : (VT d L).2.kind = .scVector}
    {α : Type} {k : PUnit → Prog (TpuEff nD τ sig (Elt F) Λ₀ (VT d L).2) α} {Q : α → sProp 𝕄} :
    idle0 (F := F) d L f fo q qo
      ⊢ iprop((busy0 m d L f fo q qo (base + s) -∗ wp frame (wpE (defs₀ (F := F)) 𝒱₀ (VT d L) none) Set.univ (k ⟨⟩) Q)
        -∗ wp frame (wpE (defs₀ (F := F)) 𝒱₀ (VT d L) none) Set.univ
            (SparseCore.enqueueIndirectGather hp pAllK b0V gathers_S1000000x128_S112x128
              ((ibV).slice (Rect.unit (s := S6272) off S112.size inb) (fun _ => rfl)) hn cc1_scratch7.sem hsrc he hsp hr >>= k) Q) := by
  unfold idle0 busy0
  iintro ⟨⟨%g, Hb⟩, Hp, Hi, Hs⟩ Hk
  ihave Hi' := (pointsTo_split_subset (q := qo) (f := fo) (S := Finset.univ)
    (Finset.subset_univ ((ibV).slice (Rect.unit (s := S6272) off S112.size inb) (fun _ => rfl)).view.set)).1 $$ Hi
  icases Hi' with ⟨Hi, Hir⟩
  iapply (wp_gather (n := 112) (thr := VT d L) hp pAllK b0V (View.set_whole _) set_pAllK
    ((ibV).slice (Rect.unit (s := S6272) off S112.size inb) (fun _ => rfl)) gathers_S1000000x128_S112x128 hn cc1_scratch7.sem
    q qo f f (read_pAllK f) g fo (fun i => inp m d (base + s + i)) (read_chunk m d base s fo hfo off inb hoff) (fun i => inp_lt m d hpre _)
    (credit_rows0 _) (by decide)) $$ [Hb Hp Hi Hs]
  · isplitl [Hp]; · iexact Hp
    isplitl [Hb]; · iexact Hb
    isplitl [Hi]; · iexact Hi
    iexact Hs
  iintro Hfl
  iapply Hk
  iexists _
  isplitl [Hfl]; · iexact Hfl
  iexact Hir

set_option maxHeartbeats 2000000 in
/-- The issue of a gather into the second row buffer: what it delivers, and the rest of the list's share beside it. -/
theorem wp_issue1 (hpre : PreOK m) (f : S1000000x128.Idx → F .f32) (fo : S6272.Idx → BitVec 32) (base s : ℕ) (q qo : PosShare TreeShare)
    (hfo : ∀ x, fo x = inp m d (base + (x 0).val)) (off : Fin 1 → ℕ) (inb : ∀ a, off a + S112.size a ≤ S6272.size a) (hoff : off = ![s])
    {hsrc : (pAllK).view.WordExact} {he : EltTy.f32.bits = 32} {hsp : Space.hbm = .hbm ∨ Space.hbm = .shared} {hr : S1000000x128.StreamRows 0}
    {hn : S112.numel = S112x128.size gathers_S1000000x128_S112x128.axis'} {hp : (VT d L).2.kind = .scVector}
    {α : Type} {k : PUnit → Prog (TpuEff nD τ sig (Elt F) Λ₀ (VT d L).2) α} {Q : α → sProp 𝕄} :
    idle1 (F := F) d L f fo q qo
      ⊢ iprop((busy1 m d L f fo q qo (base + s) -∗ wp frame (wpE (defs₀ (F := F)) 𝒱₀ (VT d L) none) Set.univ (k ⟨⟩) Q)
        -∗ wp frame (wpE (defs₀ (F := F)) 𝒱₀ (VT d L) none) Set.univ
            (SparseCore.enqueueIndirectGather hp pAllK b1V gathers_S1000000x128_S112x128
              ((ibV).slice (Rect.unit (s := S6272) off S112.size inb) (fun _ => rfl)) hn cc1_scratch8.sem hsrc he hsp hr >>= k) Q) := by
  unfold idle1 busy1
  iintro ⟨⟨%g, Hb⟩, Hp, Hi, Hs⟩ Hk
  ihave Hi' := (pointsTo_split_subset (q := qo) (f := fo) (S := Finset.univ)
    (Finset.subset_univ ((ibV).slice (Rect.unit (s := S6272) off S112.size inb) (fun _ => rfl)).view.set)).1 $$ Hi
  icases Hi' with ⟨Hi, Hir⟩
  iapply (wp_gather (n := 112) (thr := VT d L) hp pAllK b1V (View.set_whole _) set_pAllK
    ((ibV).slice (Rect.unit (s := S6272) off S112.size inb) (fun _ => rfl)) gathers_S1000000x128_S112x128 hn cc1_scratch8.sem
    q qo f f (read_pAllK f) g fo (fun i => inp m d (base + s + i)) (read_chunk m d base s fo hfo off inb hoff) (fun i => inp_lt m d hpre _)
    (credit_rows1 _) (by decide)) $$ [Hb Hp Hi Hs]
  · isplitl [Hp]; · iexact Hp
    isplitl [Hb]; · iexact Hb
    isplitl [Hi]; · iexact Hi
    iexact Hs
  iintro Hfl
  iapply Hk
  iexists _
  isplitl [Hfl]; · iexact Hfl
  iexact Hir

/-- The wait for an indirect gather in flight: what it delivers, its semaphore at zero, the wait recorded. -/
theorem wp_await {s : Shape} {e : EltTy} {sp : Space} {e' : EltTy} {s' : Shape} (src : Memref sig (VT d L).2.kind sp s' e') (dst : Memref sig (VT d L).2.kind .vmem s e)
    (sem : DmaSem sig) (N : ℕ) (hN : dst.view.dmaCredit = N) (D : sProp 𝕄) {hsrc : src.view.WordExact} {hdst : dst.view.WordExact} (O : CellTallies nD τ sig (HIx 1)) (W : Waits sig (HIx 1))
    {α : Type} {k : PUnit → Prog (TpuEff nD τ sig (Elt F) Λ₀ (VT d L).2) α} {Q : α → sProp 𝕄} :
    iprop(Transfers.Flight countersEmb (VT d L) (.dma sem) (default : HIx 1) N D
        ∗ Transfers.MayWaits (VT d L) (default : HIx 1) O ∗ recorded (F := F) d L O W)
      ⊢ iprop((iprop(D ∗ semVal (VT d L, SemLoc.dma sem) 0 ∗ Transfers.MayWaits (VT d L) (default : HIx 1) O ∗ recorded (F := F) d L O W)
          -∗ wp frame (wpE (defs₀ (F := F)) 𝒱₀ (VT d L) none) Set.univ (k ⟨⟩) Q)
        -∗ wp frame (wpE (defs₀ (F := F)) 𝒱₀ (VT d L) none) Set.univ (SparseCore.waitIndirectGather sem src dst hsrc hdst >>= k) Q) := by
  subst hN
  unfold recorded
  rw [show (SparseCore.waitIndirectGather sem src dst hsrc hdst >>= k : Prog (TpuEff nD τ sig (Elt F) Λ₀ (VT d L).2) α)
    = .op (.waitDma2 sem src dst hsrc hdst) k from rfl]
  iintro ⟨Hfl, #Hmw, %W', %hW', HO⟩ Hk
  iapply (Transfers.wp_waitLocalO countersEmb 𝒱₀ (VT d L) none (default : HIx 1) (rfl : dst.view.dmaCredit = _)) $$ [Hfl HO]
  · isplitl [Hfl]; · iexact Hfl
    isplitl [HO]; · iexact HO
    iapply (Transfers.MayWaits.elim (SemLoc.dma sem)) $$ Hmw
  iintro ⟨HD, Hs, HO⟩
  iapply Hk
  isplitl [HD]; · iexact HD
  isplitl [Hs]; · iexact Hs
  isplitr; · iexact Hmw
  iexists _; isplitr
  swap; · iexact HO
  ipureintro; intro p hp
  rcases Finset.mem_insert.mp hp with hp | hp
  · exact .inr (hp ▸ rfl)
  · exact hW' p hp

/-- Whether a further even chunk is gathered. -/
theorem cond_iff : ∀ k : Fin k1_t1_loop.trips, k1_cond1 k = 1#1 ↔ k.val + 1 < 28 := by decide +kernel

set_option maxHeartbeats 4000000 in
/-- One trip of the outer loop. -/
theorem wp_trip (hpre : PreOK m) (f : S1000000x128.Idx → F .f32) (fo : S6272.Idx → BitVec 32) (base : ℕ) (q0 q1 qo0 qo1 : PosShare TreeShare)
    (hfo : ∀ x, fo x = inp m d (base + (x 0).val)) (O : CellTallies nD τ sig (HIx 1)) (W : Waits sig (HIx 1)) (k : Fin k1_t1_loop.trips)
    (s : FVec F S16 .f32 × FVec F S16 .f32 × FVec F S16 .f32 × FVec F S16 .f32) :
    inv1 m d L f fo base q0 q1 qo0 qo1 O W k.val s
      ⊢ wp frame (wpE (defs₀ (F := F)) 𝒱₀ (VT d L) none) Set.univ (k1_t1_body L inV (Memref.isWhole_whole _) pV (Memref.isWhole_whole _) eV (Memref.isWhole_whole _) sV (Memref.isWhole_whole _)
            iaV (Memref.isWhole_whole _) baV (Memref.isWhole_whole _) ibV (Memref.isWhole_whole _) b0V (Memref.isWhole_whole _)
            b1V (Memref.isWhole_whole _) acV (Memref.isWhole_whole _) cc1_scratch6 cc1_scratch7 cc1_scratch8 cc1_scoped0 cc1_scoped1 cc1_scoped2 cc1_scoped3 k s)
          (fun s' => inv1 m d L f fo base q0 q1 qo0 qo1 O W (k.val + 1) s') := by
  have hk : k.val < 28 := k.isLt
  generalize hQ : (fun s' => inv1 m d L f fo base q0 q1 qo0 qo1 O W (k.val + 1) s') = Q
  unfold inv1
  rw [if_pos hk]
  iintro ⟨%hs, #Hmw, Hb0, Hi1, Hrec⟩
  subst hs
  unfold k1_t1_body
  simp only [lanes]
  iapply (wp_issue1 m d L hpre f fo base (224 * k.val + 112) q1 qo1 hfo (k1_off4 k) (k1_off4_inb k) (k1_off4_eq k)) $$ Hi1
  iintro Hb1
  unfold busy0
  icases Hb0 with ⟨%I, Hfl, Hir⟩
  iapply (wp_await d L pAllK b0V cc1_scratch7.sem _ rfl _ O W) $$ [Hfl Hrec]
  · isplitl [Hfl]; · iexact Hfl
    isplitr; · iexact Hmw
    iexact Hrec
  iintro ⟨⟨⟨%g, %hg, Hb⟩, Hp, Hi⟩, Hsem, -, Hrec⟩
  rw [show (lane m f d base (224 * k.val) 0, lane m f d base (224 * k.val) 1, lane m f d base (224 * k.val) 2, lane m f d base (224 * k.val) 3)
    = lanes m f d base (224 * k.val) from rfl]
  simp only [wp_bind]
  iapply (wp_t2 m d L f base (224 * k.val) g hg)
  isplitl [Hb]; · iexact Hb
  iintro Hb
  -- the first buffer and its shares, together again
  ihave Hidle := (show iprop(((b0V).view.loc (VT d L) ↦{fullShare} g) ∗ ((pAllK).view.loc (VT d L) ↦{q0} f)
        ∗ ((ibV).view.loc (VT d L) ↦[I]{qo0} fo) ∗ ((ibV).view.loc (VT d L) ↦[Finset.univ \ I]{qo0} fo)
        ∗ semVal (VT d L, SemLoc.dma cc1_scratch7.sem) 0) ⊢ (idle0 (F := F) d L f fo q0 qo0 : sProp 𝕄) from by
    unfold idle0
    iintro ⟨Hb, Hp, Hi, Hir, Hs⟩
    isplitl [Hb]; · iexists g; iexact Hb
    isplitl [Hp]; · iexact Hp
    isplitl [Hi Hir]
    · iapply (pointsTo_split_subset (q := qo0) (f := fo) (S := Finset.univ) (Finset.subset_univ I)).2
      isplitl [Hi] <;> iassumption
    iexact Hs) $$ [Hb Hp Hi Hir Hsem]
  · isplitl [Hb]; · iexact Hb
    isplitl [Hp]; · iexact Hp
    isplitl [Hi]; · iexact Hi
    isplitl [Hir]; · iexact Hir
    iexact Hsem
  -- what the second half of the trip does, whatever the first buffer holds
  have tail : ∀ (R : sProp 𝕄), (R ⊢ if k.val + 1 < 28 then busy0 m d L f fo q0 qo0 (base + 224 * (k.val + 1)) else idle0 (F := F) d L f fo q0 qo0) →
      iprop(R ∗ Transfers.MayWaits (VT d L) (default : HIx 1) O ∗ busy1 m d L f fo q1 qo1 (base + (224 * k.val + 112)) ∗ recorded (F := F) d L O W)
        ⊢ wp frame (wpE (defs₀ (F := F)) 𝒱₀ (VT d L) none) Set.univ (do
            SparseCore.waitIndirectGather cc1_scratch8.sem pAllK b1V (View.wordExact_bits rfl) (Memref.isWhole_whole _).wordExact
            let x ← Scf.Loop.for k1_t3_loop k1_t3_ok (lanes m f d base (224 * k.val + 112)) (k1_t3_body L inV (Memref.isWhole_whole _) pV (Memref.isWhole_whole _) eV (Memref.isWhole_whole _) sV (Memref.isWhole_whole _)
            iaV (Memref.isWhole_whole _) baV (Memref.isWhole_whole _) ibV (Memref.isWhole_whole _) b0V (Memref.isWhole_whole _)
            b1V (Memref.isWhole_whole _) acV (Memref.isWhole_whole _) cc1_scratch6 cc1_scratch7 cc1_scratch8 cc1_scoped0 cc1_scoped1 cc1_scoped2 cc1_scoped3)
            Pure.pure (x.1, x.2.1, x.2.2.1, x.2.2.2)) Q := by
    intro R hR
    iintro ⟨HR, #Hmw, Hb1, Hrec⟩
    ihave HR' := hR $$ HR
    unfold busy1
    icases Hb1 with ⟨%I, Hfl, Hir⟩
    iapply (wp_await d L pAllK b1V cc1_scratch8.sem _ rfl _ O W) $$ [Hfl Hrec]
    · isplitl [Hfl]; · iexact Hfl
      isplitr; · iexact Hmw
      iexact Hrec
    iintro ⟨⟨⟨%g, %hg, Hb⟩, Hp, Hi⟩, Hsem, -, Hrec⟩
    simp only [wp_bind]
    iapply (wp_t3 m d L f base (224 * k.val + 112) g hg)
    isplitl [Hb]; · iexact Hb
    iintro Hb
    simp only [wp_pure]
    imodintro
    subst hQ
    unfold inv1
    isplitr; · ipureintro; rfl
    isplitr; · iexact Hmw
    isplitl [HR']; · iexact HR'
    isplitr [Hrec]
    · unfold idle1
      isplitl [Hb]; · iexists g; iexact Hb
      isplitl [Hp]; · iexact Hp
      isplitl [Hi Hir]
      · iapply (pointsTo_split_subset (q := qo1) (f := fo) (S := Finset.univ) (Finset.subset_univ I)).2
        isplitl [Hi] <;> iassumption
      iexact Hsem
    iexact Hrec
  by_cases hc : k1_cond1 k = 1#1
  · have hc' := (cond_iff k).1 hc
    simp only [dif_pos hc]
    iapply (wp_issue0 m d L hpre f fo base (224 * (k.val + 1)) q0 qo0 hfo (k1_off10 k) (k1_off10_inb k hc) (by rw [k1_off10_eq k]; rfl)) $$ Hidle
    iintro Hb0
    iapply (tail _ (by rw [if_pos hc']))
    isplitl [Hb0]; · iexact Hb0
    isplitr; · iexact Hmw
    isplitl [Hb1]; · iexact Hb1
    iexact Hrec
  · have hc' : ¬ k.val + 1 < 28 := fun h => hc ((cond_iff k).2 h)
    simp only [dif_neg hc]
    iapply (tail _ (by rw [if_neg hc']))
    isplitl [Hidle]; · iexact Hidle
    isplitr; · iexact Hmw
    isplitl [Hb1]; · iexact Hb1
    iexact Hrec

end Cert.Proof.Bag

end

end
-- ==== Proof.TileRes.lean ====
/-
  The task of one vector subcore, from what it is handed (`goAt`) to what it brings back (`tdAt`): its 6272 tail words
  and its 128 head words fetched, the head words' rows gathered and copied out to its block, the tail words' rows summed
  by the outer loop, the sums stored and copied out to its row of the partial sums.
-/
module

public import proofs.«01_k».proof.Proof.Trip

@[expose] public section

noncomputable section

namespace Cert.Proof.Bag

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ
variable [FloatOps F] (m : (ℓ : Loc nD τ sig) → Buf (Elt F) ℓ) (d : Dev nD) (L : grid1.Coords)
variable (Q1 : Dev nD → (S1000000x128.Idx → F .f32) → Prop)

/-- The number of the subcore at coordinates `L`. -/
abbrev widL (L : grid1.Coords) : ℕ := widN (L 0).val (L 1).val

/-! ## The slices of the arrays a task addresses -/

/-- Its tail words, its head words, its block of the gathered rows, its row of the partial sums. -/
abbrev inTK (L : grid1.Coords) : Memref sig .scVector .hbm S6272 .i32 := (inV).slice (Rect.unit (s := S204800) (k1_off1 L) S6272.size (k1_off1_inb L)) (fun _ => rfl)
abbrev inHK (L : grid1.Coords) : Memref sig .scVector .hbm S128 .i32 := (inV).slice (Rect.unit (s := S204800) (k1_off2 L) S128.size (k1_off2_inb L)) (fun _ => rfl)
abbrev eK (L : grid1.Coords) : Memref sig .scVector .hbm S128x128 .f32 := (eV).slice (Rect.unit (s := S4096x128) (k1_off3 L) S128x128.size (k1_off3_inb L)) (fun _ => rfl)
abbrev sK (L : grid1.Coords) : Memref sig .scVector .hbm S128 .f32 :=
  ((sV).slice (Rect.unit (s := S32x128) (k1_off15 L) S1x128.size (k1_off15_inb L)) (fun _ => rfl)).squeeze S128 squeezes_S1x128_S128

theorem set_eK : (eK L).view.set = eSet (widL L) := by
  show ((eV).view.slice (Rect.unit (s := S4096x128) (k1_off3 L) S128x128.size (k1_off3_inb L))).set = _
  rw [View.set_slice_whole]
  ext y
  rw [Rect.mem_set_unit, k1_off3_eq]
  refine (Fin.forall_fin_two (p := fun a : Fin 2 => (![256 * (L 1).val + 128 * (L 0).val, 0] : Fin 2 → ℕ) a ≤ (y a).val
    ∧ (y a).val < (![256 * (L 1).val + 128 * (L 0).val, 0] : Fin 2 → ℕ) a + S128x128.size a)).trans ?_
  have h1 : (y 1).val < 128 := (y 1).isLt
  simp [eSet, widN]
  omega

theorem set_sK : (sK L).view.set = sSet (widL L) := by
  show (((sV).view.slice (Rect.unit (s := S32x128) (k1_off15 L) S1x128.size (k1_off15_inb L))).reshape S128 squeezes_S1x128_S128.numel_eq).set = _
  rw [View.set_reshape, View.set_slice_whole]
  ext y
  rw [Rect.mem_set_unit, k1_off15_eq]
  refine (Fin.forall_fin_two (p := fun a : Fin 2 => (![2 * (L 1).val + (L 0).val, 0] : Fin 2 → ℕ) a ≤ (y a).val
    ∧ (y a).val < (![2 * (L 1).val + (L 0).val, 0] : Fin 2 → ℕ) a + S1x128.size a)).trans ?_
  have h1 : (y 1).val < 128 := (y 1).isLt
  simp [sSet, widN]
  omega

/-- The tail words as fetched. -/
theorem read_inTK (x : S6272.Idx) : (inTK L).view.read (Elt F) (m (inLoc d)) x = inp m d (4096 + 6272 * widL L + (x 0).val) := by
  rw [View.read_apply]
  refine (cast_eq _ _).trans (inp_eq m d _ _ ?_).symm
  show _ = k1_off1 L 0 + 1 * (x 0).val
  rw [k1_off1_eq]
  show 4096 + 6272 * (2 * (L 1).val + (L 0).val) + (x 0).val = 12544 * (L 1).val + 6272 * (L 0).val + 4096 + 1 * (x 0).val
  omega

/-- The head words as fetched. -/
theorem read_inHK (x : S128.Idx) : (inHK L).view.read (Elt F) (m (inLoc d)) x = inp m d (128 * widL L + (x 0).val) := by
  rw [View.read_apply]
  refine (cast_eq _ _).trans (inp_eq m d _ _ ?_).symm
  show _ = k1_off2 L 0 + 1 * (x 0).val
  rw [k1_off2_eq]
  show 128 * (2 * (L 1).val + (L 0).val) + (x 0).val = 256 * (L 1).val + 128 * (L 0).val + 1 * (x 0).val
  omega

/-! ## The cells and the scratch buffers a task owns -/

abbrev csem (k : Nat) (hk : k < 18 := by decide) : DmaSem sig := ⟨k, hk⟩
abbrev dcell (d : Dev nD) (L : grid1.Coords) (k : Fin 7) : GSem nD τ sig := (VT d L, .dma (csem (k.val + 4) (by omega)))
/-- The seven cells the task names, at zero. -/
abbrev cells0 (d : Dev nD) (L : grid1.Coords) : sProp 𝕄 :=
  iprop(semVal (VT d L, SemLoc.dma (csem 4)) 0 ∗ semVal (VT d L, SemLoc.dma (csem 5)) 0 ∗ semVal (VT d L, SemLoc.dma (csem 6)) 0
    ∗ semVal (VT d L, SemLoc.dma (csem 7)) 0 ∗ semVal (VT d L, SemLoc.dma (csem 8)) 0 ∗ semVal (VT d L, SemLoc.dma (csem 9)) 0
    ∗ semVal (VT d L, SemLoc.dma (csem 10)) 0)

theorem dcell_mem (k : Fin 7) : dcell d L k ∈ ownCells (VT d L) :=
  mem_ownCells.mpr ⟨rfl, (show ∀ k : Fin 7, (SemLoc.dma (csem (k.val + 4) (by omega)) : SemLoc sig).isScoped .scVector = true by decide) k⟩

/-- The subcore's cells at zero: the seven and the rest. -/
theorem ownSems0_V :
    (ownSems0 (VT d L) : sProp 𝕄)
      = iprop(cells0 (F := F) d L ∗ bigSep ((ownCells (VT d L)) \ Finset.univ.image (dcell d L)) fun g => semVal g 0) := by
  unfold SparseCore.Cfg.ownSems0
  rw [SparseCore.bigSep_sdiff_split' (t := Finset.univ.image (dcell d L)) (Finset.image_subset_iff.mpr fun k _ => dcell_mem d L k),
    SparseCore.bigSep_image_of_injOn (fun a _ b _ h => by
      have := congrArg (fun g : GSem nD τ sig => g.2) h
      simp only [SemLoc.dma.injEq, Fin.mk.injEq] at this; exact Fin.ext (by omega))]
  rw [show (Finset.univ : Finset (Fin 7)) = {0, 1, 2, 3, 4, 5, 6} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-- A scratch buffer of the task, by its number. -/
abbrev scratchRef : Fin 6 → Ref sig .scVector
  | 0 => cc1_scratch0 | 1 => cc1_scratch1 | 2 => cc1_scratch2 | 3 => cc1_scratch3 | 4 => cc1_scratch4 | 5 => cc1_scratch5

/-- The task's six scratch buffers at some contents. -/
abbrev scratch (d : Dev nD) (L : grid1.Coords) : sProp 𝕄 :=
  iprop((∃ f, (VT d L).loc cc1_scratch0 ↦{fullShare} f) ∗ (∃ f, (VT d L).loc cc1_scratch1 ↦{fullShare} f)
    ∗ (∃ f, (VT d L).loc cc1_scratch2 ↦{fullShare} f) ∗ (∃ f, (VT d L).loc cc1_scratch3 ↦{fullShare} f)
    ∗ (∃ f, (VT d L).loc cc1_scratch4 ↦{fullShare} f) ∗ (∃ f, (VT d L).loc cc1_scratch5 ↦{fullShare} f))

/-- The subcore's own buffers: the six and the rest. -/
theorem ownBufs_V :
    (ownBufs (VT d L) : sProp 𝕄)
      = iprop(scratch (F := F) d L
          ∗ bigSep ((ownRefs (τ := τ) (.scVector (cV L) (jV L))) \ Finset.univ.image fun k => (Proc.scVector (cV L) (jV L)).devRef (scratchRef k))
              fun b => iprop(∃ f, ((d, b) : Loc nD τ sig) ↦{fullShare} f)) := by
  unfold SparseCore.Cfg.ownBufs
  refine (SparseCore.bigSep_sdiff_split' (t := Finset.univ.image fun k => (Proc.scVector (cV L) (jV L)).devRef (scratchRef k))
    (Finset.image_subset_iff.mpr fun k _ => SparseCore.Cfg.mem_ownRefs_of_owner (p := Proc.scVector (cV L) (jV L))
      (b := (Proc.scVector (cV L) (jV L)).devRef (scratchRef k)) (by
        match k with | 0 => rfl | 1 => rfl | 2 => rfl | 3 => rfl | 4 => rfl | 5 => rfl))).trans ?_
  rw [SparseCore.bigSep_image_of_injOn (fun a _ b _ h =>
      (show Function.Injective scratchRef by decide) (Proc.devRef_injective _ h))]
  rw [show (Finset.univ : Finset (Fin 6)) = {0, 1, 2, 3, 4, 5} by decide,
    SparseCore.bigSep_insert' (by decide), SparseCore.bigSep_insert' (by decide), SparseCore.bigSep_insert' (by decide),
    SparseCore.bigSep_insert' (by decide), SparseCore.bigSep_insert' (by decide), bigSep_singleton]

end Cert.Proof.Bag

end

end
-- ==== Proof.TileVals.lean ====
/-
  What one vector subcore's three result buffers hold: its block of the gathered rows, the accumulator of its sums, its
  row of the partial sums.
-/
module

public import proofs.«01_k».proof.Proof.TileRes
public import Idealize.ShloMosaic.Lib.Writes

@[expose] public section

noncomputable section

namespace Cert.Proof.Bag

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ
variable [FloatOps F] (m : (ℓ : Loc nD τ sig) → Buf (Elt F) ℓ) (d : Dev nD) (L : grid1.Coords)

/-- The block of the gathered rows after the copy of rows `w` onto it. -/
theorem block_written (fb : S4096x128.Idx → F .f32) (w : S128x128.Idx → F .f32) (f : S1000000x128.Idx → F .f32)
    (hw : ∀ x, w x = rowAt f (inp m d (128 * widL L + (x 0).val)) (x 1)) (x : S4096x128.Idx) (hx : (x 0).val / 128 = widL L) :
    (eK L).view.writes (Elt F) fb [⟨Rect.whole S128x128, w⟩] x = rowAt f (inp m d (x 0).val) (x 1) := by
  let y : S128x128.Idx := ix2 (⟨(x 0).val - 128 * widL L, by omega⟩ : Fin 128) (⟨(x 1).val, (x 1).isLt⟩ : Fin 128)
  have e : (eK L).view.emb y = x := by
    funext a
    refine Fin.ext ?_
    show k1_off3 L a + 1 * (y a).val = (x a).val
    rw [k1_off3_eq]
    have hx' : (x 0).val / 128 = 2 * (L 1).val + (L 0).val := hx
    match a with
    | 0 =>
      show 256 * (L 1).val + 128 * (L 0).val + 1 * ((x 0).val - 128 * (2 * (L 1).val + (L 0).val)) = (x 0).val
      omega
    | 1 => show 0 + 1 * (x 1).val = (x 1).val; omega
  have h := View.read_writes_cons_emb (eK L).view (Val := Elt F) fb (Rect.whole S128x128) w [] y
  rw [Rect.emb_whole_apply, View.read_apply] at h
  have h' := ((cast_eq _ _).symm.trans h)
  rw [← e]
  refine h'.trans ((hw y).trans ?_)
  rw [e]
  have e0 : 128 * widL L + (y 0).val = (x 0).val := by show 128 * widL L + ((x 0).val - 128 * widL L) = _; omega
  rw [e0]
  rfl

/-- The row of the partial sums after the copy of `w` onto it. -/
theorem row_written (fb : S32x128.Idx → F .f32) (w : S128.Idx → F .f32) (x : S32x128.Idx) (hx : (x 0).val = widL L) :
    (sK L).view.writes (Elt F) fb [⟨Rect.whole S128, w⟩] x = w (ix1 (n := 128) (x 1)) := by
  let y : S128.Idx := ix1 (n := 128) (x 1)
  have er : Shape.reshapeEquiv squeezes_S1x128_S128.numel_eq y = (ix2 (0 : Fin 1) (x 1 : Fin 128) : S1x128.Idx) :=
    Shape.reshapeEquiv_eq_of_rowMajor _ (by
      rw [Shape.rowMajor_val_two, Shape.rowMajor_val_one]
      show 0 * 128 + (x 1).val = (x 1).val
      omega)
  have e : (sK L).view.emb y = x := by
    show (Rect.unit (s := S32x128) (k1_off15 L) S1x128.size (k1_off15_inb L)).emb (Shape.reshapeEquiv squeezes_S1x128_S128.numel_eq y) = x
    rw [er]
    funext a
    refine Fin.ext ?_
    show k1_off15 L a + 1 * ((ix2 (0 : Fin 1) (x 1 : Fin 128) : S1x128.Idx) a).val = (x a).val
    rw [k1_off15_eq]
    match a with
    | 0 => show 2 * (L 1).val + (L 0).val + 1 * 0 = (x 0).val; rw [hx]; rfl
    | 1 => show 0 + 1 * (x 1).val = (x 1).val; omega
  have h := View.read_writes_cons_emb (sK L).view (Val := Elt F) fb (Rect.whole S128) w [] y
  rw [Rect.emb_whole_apply, View.read_apply] at h
  have h' := ((cast_eq _ _).symm.trans h)
  rw [← e]
  refine h'.trans ?_
  rw [e]

/-- The accumulator after the four stores: in its first 64 lanes the running sums. -/
theorem acc_written (fac : S128.Idx → F .f32) (f : S1000000x128.Idx → F .f32) (base n : ℕ) (x : S128.Idx) (hx : (x 0).val < 64) :
    (acV).view.read (Elt F) ((acV).view.writes (Elt F) fac
        [⟨Rect.unit ![48] ![16] inb_S128_S16_48, lane m f d base n 3⟩, ⟨Rect.unit ![32] ![16] inb_S128_S16_32, lane m f d base n 2⟩,
          ⟨Rect.unit ![16] ![16] inb_S128_S16_16, lane m f d base n 1⟩, ⟨Rect.unit ![0] S16.size inb_S128_S16_0, lane m f d base n 0⟩]) x
      = accN m f d base n ⟨(x 0).val, by omega⟩ := by
  have hit : ∀ (c : Fin 4) (o : ℕ) (ho : o = 16 * c.val) (hin : ∀ a, (![o] : Fin 1 → ℕ) a + (![16] : Fin 1 → ℕ) a ≤ S128.size a) (P : List (View.Piece (Elt F) S128 .f32)),
      o ≤ (x 0).val → (x 0).val < o + 16 →
      (acV).view.read (Elt F) ((acV).view.writes (Elt F) fac (⟨Rect.unit (s := S128) ![o] ![16] hin, lane m f d base n c⟩ :: P)) x
        = accN m f d base n ⟨(x 0).val, by omega⟩ := by
    intro c o ho hin P h1 h2
    let y : S16.Idx := ix1 (⟨(x 0).val - o, by omega⟩ : Fin 16)
    have e : (Rect.unit (s := S128) ![o] ![16] hin).emb y = x := by
      funext a
      match a with
      | 0 => refine Fin.ext ?_; show o + 1 * ((x 0).val - o) = (x 0).val; omega
    have h := View.read_writes_cons_emb (acV).view (Val := Elt F) fac (Rect.unit (s := S128) ![o] ![16] hin) (lane m f d base n c) P y
    rw [e] at h
    rw [h]
    unfold lane
    congr 1
    refine Fin.ext ?_
    show 16 * c.val + ((x 0).val - o) = (x 0).val
    omega
  by_cases h3 : 48 ≤ (x 0).val
  · exact hit 3 48 rfl _ _ h3 (by omega)
  rw [View.read_writes_cons_miss_of_axis (a := 0) (o := 48) (n := 16) (ho := rfl) (hst := rfl) (hn := rfl) (h := by omega)]
  by_cases h2 : 32 ≤ (x 0).val
  · exact hit 2 32 rfl _ _ h2 (by omega)
  rw [View.read_writes_cons_miss_of_axis (a := 0) (o := 32) (n := 16) (ho := rfl) (hst := rfl) (hn := rfl) (h := by omega)]
  by_cases h1 : 16 ≤ (x 0).val
  · exact hit 1 16 rfl _ _ h1 (by omega)
  rw [View.read_writes_cons_miss_of_axis (a := 0) (o := 16) (n := 16) (ho := rfl) (hst := rfl) (hn := rfl) (h := by omega)]
  exact hit 0 0 rfl _ _ (by omega) (by omega)

end Cert.Proof.Bag

end

end
-- ==== Proof.Tile.lean ====
/-
  The task of one vector subcore (`tile_body`), from what it is handed to what it brings back.
-/
module

public import proofs.«01_k».proof.Proof.TileVals

@[expose] public section

noncomputable section

namespace Cert.Proof.Bag

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ
variable [FloatOps F] (m : (ℓ : Loc nD τ sig) → Buf (Elt F) ℓ) (d : Dev nD) (L : grid1.Coords)
variable (Q1 : Dev nD → (S1000000x128.Idx → F .f32) → Prop)

theorem credit_rowsA : ∀ h : S1000000x128.Gathers 0 S128x128,
    ∑ j, ((baV).slice (S128x128.rowRect h.axis' j) (S128x128.stride_rowRect h.axis' j)).view.dmaCredit = (baV).view.dmaCredit := by decide

/-- One wait more is recorded. -/
theorem record_one (O : CellTallies nD τ sig (HIx 1)) (W W1 : Waits sig (HIx 1)) (hW1 : ∀ p ∈ W1, p ∈ W ∨ p.2 = none) (l : SemLoc sig) :
    owes (VT d L) O (insert (l, (default : HIx 1)) W1) ⊢ (recorded (F := F) d L O W : sProp 𝕄) := by
  unfold recorded
  iintro H; iexists _; isplitr; swap; · iexact H
  ipureintro; intro p hp
  rcases Finset.mem_insert.mp hp with rfl | hp
  · exact .inr rfl
  · exact hW1 p hp

/-- Two waits more are recorded. -/
theorem record_two (O : CellTallies nD τ sig (HIx 1)) (W : Waits sig (HIx 1)) (l l' : SemLoc sig) :
    owes (VT d L) O (insert (l, (default : HIx 1)) (insert (l', default) W)) ⊢ (recorded (F := F) d L O W : sProp 𝕄) :=
  record_one d L O W _ (fun p hp => by
    rcases Finset.mem_insert.mp hp with rfl | hp
    · exact .inr rfl
    · exact .inl hp) l

set_option maxHeartbeats 8000000 in
/-- The task of one vector subcore: from what it is handed to what it brings back, its waits recorded. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ goAt m Q1 d (widL L)
        ∗ scopedBufs (VT d L) ∗ scopedSems0 (VT d L) ∗ owes (VT d L) O W)
      ⊢ wp frame (wpE (defs₀ (F := F)) 𝒱₀ (VT d L) none) Set.univ
          (cc1__k2_body L inV (Memref.isWhole_whole _) pV (Memref.isWhole_whole _) eV (Memref.isWhole_whole _) sV (Memref.isWhole_whole _)
            iaV (Memref.isWhole_whole _) baV (Memref.isWhole_whole _) ibV (Memref.isWhole_whole _) b0V (Memref.isWhole_whole _)
            b1V (Memref.isWhole_whole _) acV (Memref.isWhole_whole _) cc1_scratch6 cc1_scratch7 cc1_scratch8 cc1_scoped0 cc1_scoped1 cc1_scoped2 cc1_scoped3)
          fun _ => iprop(tdAt m Q1 d (widL L) ∗ scopedBufs (VT d L) ∗ scopedSems0 (VT d L)
            ∗ ∃ W', ⌜∀ p ∈ W', p ∈ W ∨ p.2 = none⌝ ∗ owes (VT d L) O W') := by
  simp only [cc1__k2_body_eq_skeleton]; unfold cc1__k2_body_skel
  simp only [k1_part1_eq_skeleton]; unfold k1_part1_skel
  rw [(K (F := F)).scopedBufs_V hF d (cV L) (jV L), SparseCore.Cfg.scopedSems0_V (Val := Elt F) d (cV L) (jV L), ownSems0_V, ownBufs_V]
  unfold goAt
  iintro ⟨#Hlv, -, ⟨Hin, ⟨%f, %hf, Hp⟩, He, Hs⟩, ⟨⟨⟨%fia, Hia⟩, ⟨%fba, Hba⟩, ⟨%fib, Hib⟩, ⟨%fb0, Hb0⟩, ⟨%fb1, Hb1⟩, ⟨%fac, Hac⟩⟩, Hbufs⟩, ⟨⟨S4, S5, S6, S7, S8, S9, S10⟩, Hsems⟩, HO⟩
  ihave Hmw := (show levAts (K (F := F)).L (K (F := F)).lev ⊢ Transfers.MayWaits (VT d L) (default : HIx 1) O from
    (K (F := F)).mayWaits_none (thr := VT d L) hO) $$ Hlv
  ihave Hin' := (Entails.of_eq (show (inLoc d ↦{tokQ (widL L)} m (inLoc d) : sProp 𝕄) = (inV).view.loc (VT d L) ↦{tokQ (widL L)} m (inLoc d) from rfl)) $$ Hin
  ihave He' := (Entails.of_eq (show (eLoc d ↦[eSet (widL L)]{fullShare} m (eLoc d) : sProp 𝕄)
    = (eK L).view.loc (VT d L) ↦[(eK L).view.set]{fullShare} m (eLoc d) by rw [set_eK])) $$ He
  ihave Hs' := (Entails.of_eq (show (sLoc d ↦[sSet (widL L)]{fullShare} m (sLoc d) : sProp 𝕄)
    = (sK L).view.loc (VT d L) ↦[(sK L).view.set]{fullShare} m (sLoc d) by rw [set_sK])) $$ Hs
  ihave Hia' := (Entails.of_eq (show ((VT d L).loc cc1_scratch0 ↦{fullShare} fia : sProp 𝕄) = (iaV).view.loc (VT d L) ↦{fullShare} fia from rfl)) $$ Hia
  ihave Hba' := (Entails.of_eq (show ((VT d L).loc cc1_scratch1 ↦{fullShare} fba : sProp 𝕄) = (baV).view.loc (VT d L) ↦{fullShare} fba from rfl)) $$ Hba
  ihave Hib' := (Entails.of_eq (show ((VT d L).loc cc1_scratch2 ↦{fullShare} fib : sProp 𝕄) = (ibV).view.loc (VT d L) ↦{fullShare} fib from rfl)) $$ Hib
  ihave Hac' := (Entails.of_eq (show ((VT d L).loc cc1_scratch5 ↦{fullShare} fac : sProp 𝕄) = (acV).view.loc (VT d L) ↦{fullShare} fac from rfl)) $$ Hac
  sl_exec
  -- the two lists as fetched
  have hfo : ∀ x : S6272.Idx, (View.write (Elt F) (ibV).view fib (tile_body.sl.dma0 m d L) Finset.univ : S6272.Idx → BitVec 32) x
      = inp m d (4096 + 6272 * widL L + (x 0).val) := fun x =>
    (congrFun (View.write_whole_univ (Val := Elt F) cc1_scratch2 fib (tile_body.sl.dma0 m d L)) x).trans (read_inTK m d L x)
  have hfa : ∀ x : S128.Idx, (iaV).view.read (Elt F) (View.write (Elt F) (iaV).view fia (tile_body.sl.dma0_1 m d L) Finset.univ) x
      = inp m d (128 * widL L + (x 0).val) := fun x =>
    (congrFun (View.read_write_univ (v := (iaV).view) (Val := Elt F) fia (tile_body.sl.dma0_1 m d L)) x).trans (read_inHK m d L x)
  generalize (View.write (Elt F) (ibV).view fib (tile_body.sl.dma0 m d L) Finset.univ) = fo at hfo ⊢
  generalize (View.write (Elt F) (iaV).view fia (tile_body.sl.dma0_1 m d L) Finset.univ) = fa at hfa ⊢
  -- the shares of the packed table and of the list
  generalize hq : tokQ (widL L) = q
  ihave Hp' := (pointsTo_share (PosShare.mem_left_op_right q)).1 $$ Hp
  icases Hp' with ⟨Hpa, Hp⟩
  ihave Hp' := (pointsTo_share (PosShare.mem_left_op_right (PosShare.right q))).1 $$ Hp
  icases Hp' with ⟨Hp0, Hp1⟩
  ihave Hib'' := (pointsTo_share (PosShare.mem_left_op_right fullShare)).1 $$ Hib'
  icases Hib'' with ⟨Hi0, Hi1⟩
  ihave Hia'' := (Entails.of_eq (show ((iaV).view.loc (VT d L) ↦{fullShare} fa : sProp 𝕄) = (iaV).view.loc (VT d L) ↦[(iaV).view.set]{fullShare} fa by
    rw [View.set_whole])) $$ Hia'
  have rec78 := record_two (F := F) d L O W (SemLoc.dma (csem 8)) (SemLoc.dma (csem 7))
  ihave Hrec := rec78 $$ HO
  -- the head rows' gather
  iapply (wp_gather (n := 128) (thr := VT d L) _ pAllK baV (View.set_whole _) set_pAllK iaV gathers_S1000000x128_S128x128 _ cc1_scratch6.sem
    (PosShare.left q) fullShare f f (read_pAllK f) fba fa (fun i => inp m d (128 * widL L + i)) hfa (fun i => inp_lt m d hpre _) (credit_rowsA _) (by decide)) $$ [Hpa Hba' Hia'' S4]
  · isplitl [Hpa]; · iexact Hpa
    isplitl [Hba']; · iexact Hba'
    isplitl [Hia'']; · iexact Hia''
    iexact S4
  iintro Hfa
  -- the first chunk's
  ihave Hid0 := (show iprop(((VT d L).loc cc1_scratch3 ↦{fullShare} fb0) ∗ ((pAllK).view.loc (VT d L) ↦{(PosShare.right q).left} f)
        ∗ ((ibV).view.loc (VT d L) ↦{fullShare.left} fo) ∗ semVal (VT d L, SemLoc.dma (csem 5)) 0) ⊢ (idle0 (F := F) d L f fo (PosShare.right q).left fullShare.left : sProp 𝕄) from by
    unfold idle0
    iintro ⟨Hb, H⟩
    isplitl [Hb]; · iexists _; iexact Hb
    iexact H) $$ [Hb0 Hp0 Hi0 S5]
  · isplitl [Hb0]; · iexact Hb0
    isplitl [Hp0]; · iexact Hp0
    isplitl [Hi0]; · iexact Hi0
    iexact S5
  ihave Hid1 := (show iprop(((VT d L).loc cc1_scratch4 ↦{fullShare} fb1) ∗ ((pAllK).view.loc (VT d L) ↦{(PosShare.right q).right} f)
        ∗ ((ibV).view.loc (VT d L) ↦{fullShare.right} fo) ∗ semVal (VT d L, SemLoc.dma (csem 6)) 0) ⊢ (idle1 (F := F) d L f fo (PosShare.right q).right fullShare.right : sProp 𝕄) from by
    unfold idle1
    iintro ⟨Hb, H⟩
    isplitl [Hb]; · iexists _; iexact Hb
    iexact H) $$ [Hb1 Hp1 Hi1 S6]
  · isplitl [Hb1]; · iexact Hb1
    isplitl [Hp1]; · iexact Hp1
    isplitl [Hi1]; · iexact Hi1
    iexact S6
  rw [wp_bind]
  iapply (wp_issue0 m d L hpre f fo (4096 + 6272 * widL L) 0 _ _ hfo ![0] inb_S6272_S112_0 rfl) $$ Hid0
  iintro Hb0
  iapply (wp_await d L pAllK baV cc1_scratch6.sem _ rfl _ O W) $$ [Hfa Hrec]
  · isplitl [Hfa]; · iexact Hfa
    isplitr; · iexact Hmw
    iexact Hrec
  iintro ⟨⟨⟨%gba, %hgba, Hba⟩, Hpa, Hia⟩, S4, -, Hrec⟩
  unfold recorded
  icases Hrec with ⟨%W1, %hW1, HO⟩
  sl_exec
  have rec9 := record_one (F := F) d L O W W1 hW1 (SemLoc.dma (csem 9))
  ihave Hrec := rec9 $$ HO
  -- the sums of the 56 chunks
  sl_for (inv1 m d L f fo (4096 + 6272 * widL L) q.right.left q.right.right fullShare.left fullShare.right O W) $$ [Hb0 Hid1 Hrec]
  case region =>
    intro k s
    exact wp_trip m d L hpre f fo (4096 + 6272 * widL L) _ _ _ _ hfo O W k s
  · unfold inv1
    isplitr; · ipureintro; rfl
    isplitr; · iexact Hmw
    isplitl [Hb0]; · rw [if_pos (by decide)]; iexact Hb0
    isplitl [Hid1]; · iexact Hid1
    iexact Hrec
  iintro %acc
  obtain ⟨s0, s1, s2, s3⟩ := acc
  unfold inv1
  rw [show Scf.trips k1_t1_loop.lb k1_t1_loop.ub k1_t1_loop.st = 28 by decide, if_neg (by decide)]
  iintro ⟨%hs, -, Hid0, Hid1, Hrec⟩
  unfold recorded
  icases Hrec with ⟨%W2, %hW2, HO⟩
  unfold tile_body.sl.prog.cont_1
  sl_exec
  unfold tile_body.sl.dma8 tile_body.sl.dma0_2 tile_body.sl.Hac'_4
  simp only [wp_ret]
  imodintro
  obtain ⟨rfl, rfl, rfl, rfl⟩ : s0 = lane m f d (4096 + 6272 * widL L) (224 * 28) 0 ∧ s1 = lane m f d (4096 + 6272 * widL L) (224 * 28) 1
      ∧ s2 = lane m f d (4096 + 6272 * widL L) (224 * 28) 2 ∧ s3 = lane m f d (4096 + 6272 * widL L) (224 * 28) 3 := by
    simpa only [lanes, Prod.mk.injEq] using hs
  unfold idle0 idle1
  icases Hid0 with ⟨⟨%g0, Hb0⟩, -, Hi0, S5⟩
  icases Hid1 with ⟨⟨%g1, Hb1⟩, -, Hi1, S6⟩
  -- what is brought back
  isplitl [He' Hs']
  · unfold tdAt
    isplitl [He']
    · iexists _
      isplitr
      swap
      · iapply (Entails.of_eq (show (_ : sProp 𝕄) = _ from by rw [← set_eK L])) $$ He'
      · ipureintro
        exact ⟨f, hf, fun x hx => block_written m d L _ _ f hgba x hx⟩
    · iexists _
      isplitr
      swap
      · iapply (Entails.of_eq (show (_ : sProp 𝕄) = _ from by rw [← set_sK L])) $$ Hs'
      · ipureintro
        exact ⟨f, hf, fun x hx hx' => (row_written L _ _ x hx).trans (acc_written m d _ f _ _ _ hx')⟩
  isplitl [Hia Hba Hi0 Hi1 Hb0 Hb1 Hac' Hbufs]
  · isplitr [Hbufs]
    swap; · iexact Hbufs
    isplitl [Hia]
    · iexists fa
      iapply (Entails.of_eq (show ((iaV).view.loc (VT d L) ↦[(iaV).view.set]{fullShare} fa : sProp 𝕄)
        = (VT d L).loc cc1_scratch0 ↦{fullShare} fa by rw [View.set_whole])) $$ Hia
    isplitl [Hba]; · iexists gba; iexact Hba
    isplitl [Hi0 Hi1]
    · iexists fo
      iapply (pointsTo_share (PosShare.mem_left_op_right fullShare)).2
      isplitl [Hi0]; · iexact Hi0
      iexact Hi1
    isplitl [Hb0]; · iexists g0; iexact Hb0
    isplitl [Hb1]; · iexists g1; iexact Hb1
    iexists _; iexact Hac'
  isplitl [S4 S5 S6 S7 S8 S9 S10 Hsems]
  · isplitr [Hsems]
    swap; · iexact Hsems
    isplitl [S4]; · iexact S4
    isplitl [S5]; · iexact S5
    isplitl [S6]; · iexact S6
    isplitl [S7]; · iexact S7
    isplitl [S8]; · iexact S8
    isplitl [S9]; · iexact S9
    iexact S10
  have rec10 := record_one (F := F) d L O W W2 hW2 (SemLoc.dma (csem 10))
  unfold recorded at rec10
  iapply rec10 $$ HO

end Cert.Proof.Bag

end

end
-- ==== Proof.Oblig.lean ====
/-
  The SparseCore call's obligations: each vector subcore's task, and how the operands go out to the tasks and come back.
-/
module

public import proofs.«01_k».proof.Proof.Tile

@[expose] public section

noncomputable section

namespace Cert.Proof.Bag

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ
variable [FloatOps F] (m : (ℓ : Loc nD τ sig) → Buf (Elt F) ℓ)
variable (Q1 : Dev nD → (S1000000x128.Idx → F .f32) → Prop)

/-- The coordinates of the task on vector subcore `s` of SparseCore `c`. -/
def taskAt (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__k2_body (taskAt c s)
          inV (Memref.isWhole_whole _) pV (Memref.isWhole_whole _) eV (Memref.isWhole_whole _) sV (Memref.isWhole_whole _)
            iaV (Memref.isWhole_whole _) baV (Memref.isWhole_whole _) ibV (Memref.isWhole_whole _) b0V (Memref.isWhole_whole _)
            b1V (Memref.isWhole_whole _) acV (Memref.isWhole_whole _) cc1_scratch6 cc1_scratch7 cc1_scratch8 cc1_scoped0 cc1_scoped1 cc1_scoped2 cc1_scoped3) ⟨⟩ c s := rfl

/-- A task's record of its waits, read as the call asks for it. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every vector subcore's task meets its obligation. -/
theorem tileObl (hF : (K (F := F)).Facts) (hpre : PreOK m) : (K (F := F)).TileObl (D (F := F)) 𝒱 (P m Q1) v₀ 0 := by
  intro d c i O W hO _ _
  simp only [show (P m Q1).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (taskAt ⟨_, hci.1⟩ ⟨_, hci.2⟩) Q1 hF hpre O W hO).trans (wp_mono frame _ _ fun _ => waits_weaken)

/-- What a SparseCore is handed is what its sixteen tasks are handed, and what it brings back is what they bring back. -/
theorem vecSplit : (K (F := F)).VecSplit' (P m Q1) 0 := by
  intro d c
  show (bigSep Finset.univ fun i : Fin ((K (F := F)).nSub 0) => goAt m Q1 d (widN c.val i.val)) ⊢ |={Set.univ}=> iprop(
      (bigSep Finset.univ fun i : Fin ((K (F := F)).nSub 0) => goAt m Q1 d (widN c.val i.val))
      ∗ ((bigSep Finset.univ fun i : Fin ((K (F := F)).nSub 0) => tdAt m Q1 d (widN c.val i.val))
          -∗ (bigSep Finset.univ fun i : Fin ((K (F := F)).nSub 0) => tdAt m Q1 d (widN c.val i.val))))
  iintro H; imodintro
  isplitl [H]; · iexact H
  iintro H; iexact H

end Cert.Proof.Bag

end

end
-- ==== Proof.Main.lean ====
/-
  @main on the TensorCore, and the run of the whole kernel.
-/
module

public import proofs.«01_k».proof.Proof.Deal
public import proofs.«01_k».proof.Proof.TcRegions
public import proofs.«01_k».proof.Proof.Oblig

@[expose] public section

noncomputable section

namespace Cert.Proof.Bag

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ
variable (m : (ℓ : Loc nD τ sig) → Buf (Elt F) ℓ) (ρ : Dev nD → PrngReg) [FloatOps F]

/-- What the TensorCore owes before and after the SparseCore call. -/
abbrev O0 : Dev nD → CellTallies nD τ sig (HIx 1) := fun d => (K (F := F)).Otc d 0
abbrev O1 : Dev nD → CellTallies nD τ sig (HIx 1) := fun d => (K (F := F)).Otc d 1

theorem Otc_none (n : ℕ) (c : Dev nD) (g : GSem nD τ sig) : (K (F := F)).Otc c n g none = 0 := by
  by_contra h
  have := SparseCore.Cfg.lev_of_Otc_pos (K := K (F := F)) (d := c) (n := n) (g := g) (ι := none) (by rw [pos_iff_ne_zero]; exact h)
  have h0 : (K (F := F)).lev g none = 0 := rfl
  omega

/-- The table with its axes exchanged. -/
def tableT (d : Dev nD) : S64x1000000.Idx → F .f32 :=
  transpose S64x1000000 [1, 0] (m ((d.tc : Thread nD τ).loc main_arg2)) transposes_S1000000x64_S64x1000000_1_0

/-- The buffers' contents as the first call finds them. -/
def V0 : Cont F := fun d => Function.update (fun b => m ((d.tc : Thread nD τ).loc b)) main_v0 (tableT m d)

/-- What the packed table may hold after the first call. -/
def Q1 (d : Dev nD) (f : S1000000x128.Idx → F .f32) : Prop := TpOut (O0 (F := F)) 0 (V0 m) d f

/-- The buffers' contents as the last call finds them, the gathered rows at `e` and the partial sums at `s`. -/
def V1 (e : S4096x128.Idx → F .f32) (s : S32x128.Idx → F .f32) : Cont F :=
  fun d => Function.update (Function.update (fun b => m ((d.tc : Thread nD τ).loc b)) main_v2_0 e) main_v2_1 s

/-- What the program leaves: the arguments at their launch contents, the result at the perceptron of rows and sums that
    the SparseCore call may leave. -/
def FIN (d : Dev nD) : sProp 𝕄 :=
  iprop(∃ e s, ⌜(∀ w < 32, EmbOK m (Q1 m) d w e) ∧ ∀ w < 32, SumOK m (Q1 m) d w s⌝
    ∗ (inLoc d ↦{PosShare.left fullShare} m (inLoc d))
    ∗ (((d.tc : Thread nD τ).loc main_arg1) ↦{fullShare} m ((d.tc : Thread nD τ).loc main_arg1))
    ∗ (((d.tc : Thread nD τ).loc main_arg2) ↦{fullShare} m ((d.tc : Thread nD τ).loc main_arg2))
    ∗ (((d.tc : Thread nD τ).loc main_arg3) ↦{fullShare} m ((d.tc : Thread nD τ).loc main_arg3))
    ∗ (((d.tc : Thread nD τ).loc main_arg4) ↦{fullShare} m ((d.tc : Thread nD τ).loc main_arg4))
    ∗ (((d.tc : Thread nD τ).loc main_arg5) ↦{fullShare} m ((d.tc : Thread nD τ).loc main_arg5))
    ∗ (((d.tc : Thread nD τ).loc main_arg6) ↦{fullShare} m ((d.tc : Thread nD τ).loc main_arg6))
    ∗ (((d.tc : Thread nD τ).loc main_v3) ↦{fullShare} mlpOut (V1 m e s) d))

/-- The TensorCore's arrays. -/
theorem unscopedBufs_eq (d : Dev nD) (W : (b : Ref sig .tc) → Buf (Elt F) ((d.tc : Thread nD τ).loc b)) :
    (unscopedBufs d W : sProp 𝕄)
      = iprop((((d.tc : Thread nD τ).loc main_arg0) ↦{fullShare} W main_arg0) ∗ (((d.tc : Thread nD τ).loc main_arg1) ↦{fullShare} W main_arg1)
        ∗ (((d.tc : Thread nD τ).loc main_arg2) ↦{fullShare} W main_arg2) ∗ (((d.tc : Thread nD τ).loc main_arg3) ↦{fullShare} W main_arg3)
        ∗ (((d.tc : Thread nD τ).loc main_arg4) ↦{fullShare} W main_arg4) ∗ (((d.tc : Thread nD τ).loc main_arg5) ↦{fullShare} W main_arg5)
        ∗ (((d.tc : Thread nD τ).loc main_arg6) ↦{fullShare} W main_arg6) ∗ (((d.tc : Thread nD τ).loc main_v0) ↦{fullShare} W main_v0)
        ∗ (((d.tc : Thread nD τ).loc main_v1) ↦{fullShare} W main_v1) ∗ (((d.tc : Thread nD τ).loc main_v2_0) ↦{fullShare} W main_v2_0)
        ∗ (((d.tc : Thread nD τ).loc main_v2_1) ↦{fullShare} W main_v2_1) ∗ ((d.tc : Thread nD τ).loc main_v3) ↦{fullShare} W main_v3) := by
  unfold unscopedBufs
  rw [show (Finset.univ.filter fun b : Ref sig .tc => ¬ b.isScoped) = {main_arg0, main_arg1, main_arg2, main_arg3, main_arg4, main_arg5, main_arg6, main_v0, main_v1, main_v2_0, main_v2_1, main_v3} by decide]
  iterate 11 rw [SparseCore.bigSep_insert' (by decide)]
  rw [bigSep_singleton]

abbrev opT : HloOp τ sig (Elt F) :=
  StableHlo.unary main_arg2 main_v0 ((transpose S64x1000000 [1, 0] · transposes_S1000000x64_S64x1000000_1_0) : (⟨S1000000x64, .f32⟩ : BufTy).Contents (Elt F) → (⟨S64x1000000, .f32⟩ : BufTy).Contents (Elt F))
abbrev a2' : DevRef τ sig := Proc.devRef .tc (main_arg2 : Ref sig .tc)
abbrev v0' : DevRef τ sig := Proc.devRef .tc (main_v0 : Ref sig .tc)
abbrev S2 : Finset (DevRef τ sig) := {a2', v0'}

theorem held_S2 (d : Dev nD) (W : Valuation τ sig (Elt F)) :
    (StableHlo.held (T d) S2 W : sProp 𝕄) = iprop((((d.tc : Thread nD τ).loc main_arg2) ↦{fullShare} W a2') ∗ (((d.tc : Thread nD τ).loc main_v0) ↦{fullShare} W v0')) := by
  unfold StableHlo.held S2
  rw [SparseCore.bigSep_insert' (by decide), bigSep_singleton]

theorem hT : (opT (F := F)).bufs ⊆ S2 := show ({a2', v0'} : Finset (DevRef τ sig)) ⊆ S2 by decide

theorem opT_a2 (d : Dev nD) : (opT (F := F)).result (fun b => m (d, b)) a2' = m ((d.tc : Thread nD τ).loc main_arg2) :=
  StableHlo.unary_result_ne _ _ _ _ _ _ (show (main_arg2 : Ref sig .tc) ≠ main_v0 by decide)
theorem opT_v0 (d : Dev nD) : (opT (F := F)).result (fun b => m (d, b)) v0' = tableT m d :=
  StableHlo.unary_result _ _ _ _ _ _

/-- A TensorCore call of @main runs as the pipeline's region does. -/
theorem wp_region (p : Fin 2) (c : Dev nD) (Φ : PUnit → sProp 𝕄) :
    wp frame (wpE (D (F := F)) 𝒱 (T c) none) Set.univ (.op (.customCall (Pipeline.entry p) ()) .ret) Φ
      ⊢ wp frame (wpE ((K (F := F)).defs (D (F := F))) 𝒱 (T c) none) Set.univ (Prog.lift (.customCall (SparseCore.inner (Pipeline.entry p)) ())) Φ :=
  (K (F := F)).wp_liftProg (D (F := F)) 𝒱 (T c) Set.univ none (.op (.customCall (Pipeline.entry p) ()) .ret) Φ

instance EP_landsIn : (EP : Emb UP 𝕄).LandsIn (upEmb : UEmb _ 𝕄) := by unfold EP; infer_instance

/-- The pipelines' ghost state, dealt at launch. -/
def G (d : Dev nD) : sProp 𝕄 :=
  iprop((bigSep Finset.univ fun p : Fin 2 => Pipeline.cellsGhost (Pipeline.pin (pcfgs (F := F)) adm) EP p d)
    ∗ bigSep Finset.univ fun p : Fin 2 => Pipeline.toksInit (Pipeline.pin (pcfgs (F := F)) adm) EP p d)

/-- What the TensorCore holds of the handshakes beside what it owes. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_zero (d : Dev nD) : ((K (F := F)).tcSt EH d 0 : sProp 𝕄) = iprop(tcOwes (O0 (F := F)) 0 d ∗ tcRest d 0) := rfl
theorem tcSt_one (d : Dev nD) : ((K (F := F)).tcSt EH d 1 : sProp 𝕄) = iprop(tcOwes (O1 (F := F)) 8 d ∗ tcRest d 1) := rfl

theorem V0_arg (d : Dev nD) (b : Ref sig .tc) (h : b ≠ main_v0) : V0 m d b = m ((d.tc : Thread nD τ).loc b) := Function.update_of_ne h _ _
theorem V0_v0 (d : Dev nD) : V0 m d main_v0 = tableT m d := Function.update_self _ _ _
theorem V1_arg (e : S4096x128.Idx → F .f32) (s : S32x128.Idx → F .f32) (d : Dev nD) (b : Ref sig .tc) (h : b ≠ main_v2_0) (h' : b ≠ main_v2_1) :
    V1 m e s d b = m ((d.tc : Thread nD τ).loc b) := (Function.update_of_ne h' _ _).trans (Function.update_of_ne h _ _)
theorem V1_e (e : S4096x128.Idx → F .f32) (s : S32x128.Idx → F .f32) (d : Dev nD) : V1 m e s d main_v2_0 = e :=
  (Function.update_of_ne (by decide) _ _).trans (Function.update_self _ _ _)
theorem V1_s (e : S4096x128.Idx → F .f32) (s : S32x128.Idx → F .f32) (d : Dev nD) : V1 m e s d main_v2_1 = s := Function.update_self _ _ _

/-- The first TensorCore call. -/
theorem step0 [∀ e, Nonempty (Elt F e)] (κ : GSem nD τ sig → ℕ) (d : Dev nD) (Φ : PUnit → sProp 𝕄) :
    iprop((K (F := F)).ctx EH (P m (Q1 m)) κ ∗ boundary (T d) ∗ (((d.tc : Thread nD τ).loc main_v0) ↦{fullShare} tableT m d)
      ∗ (pLoc d ↦{fullShare} m (pLoc d)) ∗ tcOwes (O0 (F := F)) 0 d
      ∗ Pipeline.cellsGhost (Pipeline.pin (pcfgs (F := F)) adm) EP 0 d ∗ Pipeline.toksInit (Pipeline.pin (pcfgs (F := F)) adm) EP 0 d
      ∗ ((boundary (T d) ∗ (∃ f : Buf (Elt F) (pLoc d), ⌜Q1 m d f⌝ ∗ pLoc d ↦{fullShare} f) ∗ tcOwes (O0 (F := F)) 0 d) -∗ Φ ⟨⟩))
      ⊢ wp frame (wpE ((K (F := F)).defs (D (F := F))) 𝒱 (T d) none) Set.univ (Prog.lift (.customCall (SparseCore.inner (Pipeline.entry 0)) ())) Φ := by
  have key := (Pipeline.RDat.RegionSeg.wp (pcfgs (F := F)) adm (rds (O0 (F := F)) 0 (V0 m)) (none : HIx 1) cellOf_inj EP (defs₀ (F := F)) 𝒱₀
    (K (F := F)).L (K (F := F)).lev (reg0 (O0 (F := F)) 0 (V0 m) (fun c g => Otc_none 0 c g)) d none (fun u hu => nomatch hu) .ret Φ)
  iintro ⟨#Hctx, Hb, H0, H1, HO, Hg, Ht, Hk⟩
  iapply (wp_region 0 d Φ)
  iapply key
  isplitl [Hk]
  · iintro ⟨Hb, Hpost⟩
    rw [wp_ret]; imodintro
    iapply Hk
    isplitl [Hb]; · iexact Hb
    ihave Hpost := (show (reg0 (O0 (F := F)) 0 (V0 m) (fun c g => Otc_none 0 c g)).post d ⊢ iprop((((d.tc : Thread nD τ).loc main_v0) ↦{fullShare} V0 m d main_v0)
      ∗ (∃ f : Buf (Elt F) (pLoc d), ⌜Q1 m d f⌝ ∗ pLoc d ↦{fullShare} f) ∗ tcOwes (O0 (F := F)) 0 d) from .rfl) $$ Hpost
    icases Hpost with ⟨-, H1, HO⟩
    isplitl [H1] <;> iassumption
  isplitl [Hb]; · iexact Hb
  isplitl [H0 H1 HO]
  · iapply (show iprop((((d.tc : Thread nD τ).loc main_v0) ↦{fullShare} V0 m d main_v0) ∗ (pLoc d ↦{fullShare} V0 m d main_v1) ∗ tcOwes (O0 (F := F)) 0 d)
      ⊢ (reg0 (O0 (F := F)) 0 (V0 m) (fun c g => Otc_none 0 c g)).pre d from .rfl)
    rw [V0_v0, V0_arg m d main_v1 (by decide)]
    isplitl [H0]; · iexact H0
    isplitl [H1] <;> iassumption
  isplitr; · iapply ((K (F := F)).ctx_levAts κ); iexact Hctx
  isplitl [Hg] <;> iassumption

/-- The last TensorCore call. -/
theorem step1 [∀ e, Nonempty (Elt F e)] (κ : GSem nD τ sig → ℕ) (d : Dev nD) (e : S4096x128.Idx → F .f32) (s : S32x128.Idx → F .f32) (Φ : PUnit → sProp 𝕄) :
    iprop((K (F := F)).ctx EH (P m (Q1 m)) κ ∗ boundary (T d) ∗ (eLoc d ↦{fullShare} e) ∗ (sLoc d ↦{fullShare} s)
      ∗ (((d.tc : Thread nD τ).loc main_arg3) ↦{fullShare} m ((d.tc : Thread nD τ).loc main_arg3))
      ∗ (((d.tc : Thread nD τ).loc main_arg4) ↦{fullShare} m ((d.tc : Thread nD τ).loc main_arg4))
      ∗ (((d.tc : Thread nD τ).loc main_arg5) ↦{fullShare} m ((d.tc : Thread nD τ).loc main_arg5))
      ∗ (((d.tc : Thread nD τ).loc main_arg6) ↦{fullShare} m ((d.tc : Thread nD τ).loc main_arg6))
      ∗ (((d.tc : Thread nD τ).loc main_v3) ↦{fullShare} m ((d.tc : Thread nD τ).loc main_v3))
      ∗ tcOwes (O1 (F := F)) 8 d
      ∗ Pipeline.cellsGhost (Pipeline.pin (pcfgs (F := F)) adm) EP 1 d ∗ Pipeline.toksInit (Pipeline.pin (pcfgs (F := F)) adm) EP 1 d
      ∗ ((boundary (T d)
          ∗ (((d.tc : Thread nD τ).loc main_arg3) ↦{fullShare} m ((d.tc : Thread nD τ).loc main_arg3))
          ∗ (((d.tc : Thread nD τ).loc main_arg4) ↦{fullShare} m ((d.tc : Thread nD τ).loc main_arg4))
          ∗ (((d.tc : Thread nD τ).loc main_arg5) ↦{fullShare} m ((d.tc : Thread nD τ).loc main_arg5))
          ∗ (((d.tc : Thread nD τ).loc main_arg6) ↦{fullShare} m ((d.tc : Thread nD τ).loc main_arg6))
          ∗ (((d.tc : Thread nD τ).loc main_v3) ↦{fullShare} mlpOut (V1 m e s) d) ∗ tcOwes (O1 (F := F)) 8 d) -∗ Φ ⟨⟩))
      ⊢ wp frame (wpE ((K (F := F)).defs (D (F := F))) 𝒱 (T d) none) Set.univ (Prog.lift (.customCall (SparseCore.inner (Pipeline.entry 1)) ())) Φ := by
  have key := (Pipeline.RDat.RegionSeg.wp (pcfgs (F := F)) adm (rds (O1 (F := F)) 8 (V1 m e s)) (none : HIx 1) cellOf_inj EP (defs₀ (F := F)) 𝒱₀
    (K (F := F)).L (K (F := F)).lev (reg1 (O1 (F := F)) 8 (V1 m e s) (fun c g => Otc_none 1 c g)) d none (fun u hu => nomatch hu) .ret Φ)
  iintro ⟨#Hctx, Hb, H0, H1, H2, H3, H4, H5, H6, HO, Hg, Ht, Hk⟩
  iapply (wp_region 1 d Φ)
  iapply key
  isplitl [Hk]
  · iintro ⟨Hb, Hpost⟩
    rw [wp_ret]; imodintro
    iapply Hk
    isplitl [Hb]; · iexact Hb
    ihave Hpost := (show (reg1 (O1 (F := F)) 8 (V1 m e s) (fun c g => Otc_none 1 c g)).post d ⊢ iprop(((((d.tc : Thread nD τ).loc main_arg3) ↦{fullShare} V1 m e s d main_arg3) ∗ (((d.tc : Thread nD τ).loc main_arg4) ↦{fullShare} V1 m e s d main_arg4)
      ∗ (((d.tc : Thread nD τ).loc main_arg5) ↦{fullShare} V1 m e s d main_arg5) ∗ (((d.tc : Thread nD τ).loc main_arg6) ↦{fullShare} V1 m e s d main_arg6)
      ∗ (((d.tc : Thread nD τ).loc main_v3) ↦{fullShare} mlpOut (V1 m e s) d)) ∗ tcOwes (O1 (F := F)) 8 d) from .rfl) $$ Hpost
    rw [V1_arg m e s d main_arg3 (by decide) (by decide), V1_arg m e s d main_arg4 (by decide) (by decide),
      V1_arg m e s d main_arg5 (by decide) (by decide), V1_arg m e s d main_arg6 (by decide) (by decide)]
    icases Hpost with ⟨⟨H2, H3, H4, H5, H6⟩, HO⟩
    isplitl [H2]; · iexact H2
    isplitl [H3]; · iexact H3
    isplitl [H4]; · iexact H4
    isplitl [H5]; · iexact H5
    isplitl [H6] <;> iassumption
  isplitl [Hb]; · iexact Hb
  isplitl [H0 H1 H2 H3 H4 H5 H6 HO]
  · iapply (show iprop(((eLoc d ↦{fullShare} V1 m e s d main_v2_0) ∗ (sLoc d ↦{fullShare} V1 m e s d main_v2_1)
      ∗ (((d.tc : Thread nD τ).loc main_arg3) ↦{fullShare} V1 m e s d main_arg3) ∗ (((d.tc : Thread nD τ).loc main_arg4) ↦{fullShare} V1 m e s d main_arg4)
      ∗ (((d.tc : Thread nD τ).loc main_arg5) ↦{fullShare} V1 m e s d main_arg5) ∗ (((d.tc : Thread nD τ).loc main_arg6) ↦{fullShare} V1 m e s d main_arg6)
      ∗ (((d.tc : Thread nD τ).loc main_v3) ↦{fullShare} V1 m e s d main_v3)) ∗ tcOwes (O1 (F := F)) 8 d)
      ⊢ (reg1 (O1 (F := F)) 8 (V1 m e s) (fun c g => Otc_none 1 c g)).pre d from .rfl)
    rw [V1_e, V1_s, V1_arg m e s d main_arg3 (by decide) (by decide), V1_arg m e s d main_arg4 (by decide) (by decide),
      V1_arg m e s d main_arg5 (by decide) (by decide), V1_arg m e s d main_arg6 (by decide) (by decide), V1_arg m e s d main_v3 (by decide) (by decide)]
    isplitr [HO]; swap; · iexact HO
    isplitl [H0]; · iexact H0
    isplitl [H1]; · iexact H1
    isplitl [H2]; · iexact H2
    isplitl [H3]; · iexact H3
    isplitl [H4]; · iexact H4
    isplitl [H5]; · iexact H5
    iexact H6
  isplitr; · iapply ((K (F := F)).ctx_levAts κ); iexact Hctx
  isplitl [Hg] <;> iassumption

/-- The table and its transpose after the transposition. -/
theorem held_after (d : Dev nD) : (StableHlo.held (T d) S2 ((opT (F := F)).result fun b => m (d, b)) : sProp 𝕄)
    = iprop((((d.tc : Thread nD τ).loc main_arg2) ↦{fullShare} m ((d.tc : Thread nD τ).loc main_arg2)) ∗ (((d.tc : Thread nD τ).loc main_v0) ↦{fullShare} tableT m d)) := by
  rw [held_S2, opT_a2, opT_v0]

/-- @main on device `d`'s TensorCore. -/
theorem hmain [∀ e, Nonempty (Elt F e)] (κ : GSem nD τ sig → ℕ) (d : Dev nD) :
    iprop((K (F := F)).ctx EH (P m (Q1 m)) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd G
  rw [unscopedBufs_eq, tcSt_zero, tcSt_one, show (Finset.univ : Finset (Fin 2)) = {0, 1} from rfl, SparseCore.bigSep_insert' (by decide), bigSep_singleton,
    SparseCore.bigSep_insert' (by decide), bigSep_singleton]
  simp only [main, wp_bind, wp_pure]
  iintro ⟨#Hctx, ⟨HO, Hst⟩, ⟨Hb, ⟨A0, A1, A2, A3, A4, A5, A6, B0, B1, B20, B21, B3⟩, Hts, -⟩, ⟨⟨G0, G1⟩, ⟨T0, T1⟩⟩⟩
  -- the transposition of the table
  iapply (StableHlo.wp_hlo_within 𝒱 (T d) none Set.univ (op := opT) (S := S2) hT (V := fun b => m (d, b))) $$ [Hb A2 B0]
  · isplitl [Hb]; · iexact Hb
    rw [held_S2]
    isplitl [A2] <;> iassumption
  iintro ⟨Hb, Hh⟩
  ihave Hh := (Entails.of_eq (held_after m d)) $$ Hh
  icases Hh with ⟨A2, B0⟩
  rw [wp_ret]; imodintro
  -- the first call
  iapply (step0 m κ d) $$ [-]
  isplitr; · iexact Hctx
  isplitl [Hb]; · iexact Hb
  isplitl [B0]; · iexact B0
  isplitl [B1]; · iexact B1
  isplitl [HO]; · iexact HO
  isplitl [G0]; · iexact G0
  isplitl [T0]; · iexact T0
  iintro ⟨Hb, ⟨%f, %hf, B1⟩, HO⟩
  -- the SparseCore call
  ihave Hd := (deal m (Q1 m) d f hf) $$ [A0 B1 B20 B21]
  · isplitl [A0]; · iexact A0
    isplitl [B1]; · iexact B1
    isplitl [B20] <;> iassumption
  icases Hd with ⟨A0, Hgo⟩
  iapply ((K (F := F)).wp_run (D (F := F)) 𝒱 (EH := EH) (P := P m (Q1 m)) κ d 0) $$ [-]
  isplitr; · iexact Hctx
  isplitl [HO Hst]
  · rw [show (0 : Fin 1).val = 0 from rfl, tcSt_zero]
    isplitl [HO] <;> iassumption
  isplitl [Hgo]
  · rw [st0_eq]; iexact Hgo
  iintro ⟨Hst, Hdn⟩
  ihave Hst := (show ((K (F := F)).tcSt EH d ((0 : Fin 1).val + 1) : sProp 𝕄) ⊢ iprop(tcOwes (O1 (F := F)) 8 d ∗ tcRest d 1) from .rfl) $$ Hst
  icases Hst with ⟨HO, Hst⟩
  ihave Hdn := (Entails.of_eq (dn0_eq m (Q1 m) d)) $$ Hdn
  ihave Hdn := (undeal m (Q1 m) d) $$ Hdn
  icases Hdn with ⟨⟨%e, %he, B20⟩, ⟨%s, %hs, B21⟩⟩
  -- the last call
  iapply (step1 m κ d e s) $$ [-]
  isplitr; · iexact Hctx
  isplitl [Hb]; · iexact Hb
  isplitl [B20]; · iexact B20
  isplitl [B21]; · iexact B21
  isplitl [A3]; · iexact A3
  isplitl [A4]; · iexact A4
  isplitl [A5]; · iexact A5
  isplitl [A6]; · iexact A6
  isplitl [B3]; · iexact B3
  isplitl [HO]; · iexact HO
  isplitl [G1]; · iexact G1
  isplitl [T1]; · iexact T1
  iintro ⟨Hb, A3, A4, A5, A6, B3, HO⟩
  imodintro
  isplitl [HO Hst]; · isplitl [HO] <;> iassumption
  isplitr [Hb Hts]; swap; · isplitl [Hb] <;> iassumption
  unfold FIN
  iexists e; iexists s
  isplitr; · ipureintro; exact ⟨he, hs⟩
  isplitl [A0]; · iexact A0
  isplitl [A1]; · iexact A1
  isplitl [A2]; · iexact A2
  isplitl [A3]; · iexact A3
  isplitl [A4]; · iexact A4
  isplitl [A5]; · iexact A5
  isplitl [A6] <;> iassumption

/-! ## The launch -/

/-- The launch element of the ghost state. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m (Q1 m)).x q thr) := by
  have he : (bigSep Finset.univ fun _ : Thread nD τ => iprop(emp)) = (iprop(emp) : sProp 𝕄) := bigSep_emp_const _
  unfold u₀ G
  iintro Hu
  ihave H := (ownU_pair (initOf (K (F := F)).hsCells (K (F := F)).hsToks)
    ((initOf (Pipeline.cells (Pipeline.pin (pcfgs (F := F)) adm) cellOf_inj) (Pipeline.launchToks (Pipeline.pin (pcfgs (F := F)) adm) cellOf_inj), 1) : UP × Counters)) $$ Hu
  icases H with ⟨HH, HP⟩
  ihave HP := (own_pair_emb embR (initOf (Pipeline.cells (Pipeline.pin (pcfgs (F := F)) adm) cellOf_inj) (Pipeline.launchToks (Pipeline.pin (pcfgs (F := F)) adm) cellOf_inj)) (1 : Counters)) $$ HP
  icases HP with ⟨HP, -⟩
  imod (Pipeline.fund_ghost (Pipeline.pin (pcfgs (F := F)) adm) EP cellOf_inj) $$ HP with HP
  imodintro
  isplitl [HH]; · iexact HH
  isplitl [HP]; · rw [bigSep_sep']; iexact HP
  rw [show (bigSep Finset.univ fun thr : Thread nD τ => bigSep Finset.univ fun q : Fin 1 => (P (F := F) m (Q1 m)).x q thr) = bigSep Finset.univ fun _ => iprop(emp) from
    bigSep_congr fun _ _ => bigSep_univ_of_subsingleton (0 : Fin 1), he]
  iempintro

/-- What a run leaves, read off its last state: the arguments unchanged, the result at the perceptron of rows and sums
    that the SparseCore call may leave. -/
def fq (d : Dev nD) (s' : Phys nD τ sig (Elt F)) : Prop :=
  (s'.mem.mem ((d.tc : Thread nD τ).loc main_arg0) = m ((d.tc : Thread nD τ).loc main_arg0)
    ∧ s'.mem.mem ((d.tc : Thread nD τ).loc main_arg1) = m ((d.tc : Thread nD τ).loc main_arg1)
    ∧ s'.mem.mem ((d.tc : Thread nD τ).loc main_arg2) = m ((d.tc : Thread nD τ).loc main_arg2)
    ∧ s'.mem.mem ((d.tc : Thread nD τ).loc main_arg3) = m ((d.tc : Thread nD τ).loc main_arg3)
    ∧ s'.mem.mem ((d.tc : Thread nD τ).loc main_arg4) = m ((d.tc : Thread nD τ).loc main_arg4)
    ∧ s'.mem.mem ((d.tc : Thread nD τ).loc main_arg5) = m ((d.tc : Thread nD τ).loc main_arg5)
    ∧ s'.mem.mem ((d.tc : Thread nD τ).loc main_arg6) = m ((d.tc : Thread nD τ).loc main_arg6))
  ∧ ∃ (e : S4096x128.Idx → F .f32) (s : S32x128.Idx → F .f32), ((∀ w < 32, EmbOK m (Q1 m) d w e) ∧ ∀ w < 32, SumOK m (Q1 m) d w s)
    ∧ s'.mem.mem ((d.tc : Thread nD τ).loc main_v3) = mlpOut (V1 m e s) d

/-- A buffer held at a share reads back, the state kept. -/
theorem agree (s' : Phys nD τ sig (Elt F)) (ℓ : Loc nD τ sig) (q : PosShare TreeShare) (f : Buf (Elt F) ℓ) :
    iprop((ℓ ↦{q} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := q) (f := f))) $$ [HSI H]
  · isplitl [HSI] <;> iassumption
  icases H with ⟨%h1, HSI, -⟩
  isplitr; · ipureintro; exact funext fun i => h1 i (Finset.mem_univ i)
  iexact HSI

theorem hfin (d : Dev nD) (s' : Phys nD τ sig (Elt F)) : iprop(FIN m d ∗ SI s') ⊢ (⌜fq m d s'⌝ : sProp 𝕄) := by
  unfold FIN
  iintro ⟨⟨%e, %s, %hes, A0, A1, A2, A3, A4, A5, A6, B3⟩, HSI⟩
  ihave H := (agree s' _ _ _) $$ [A0 HSI]; · isplitl [A0] <;> iassumption
  icases H with ⟨%h0, HSI⟩
  ihave H := (agree s' _ _ _) $$ [A1 HSI]; · isplitl [A1] <;> iassumption
  icases H with ⟨%h1, HSI⟩
  ihave H := (agree s' _ _ _) $$ [A2 HSI]; · isplitl [A2] <;> iassumption
  icases H with ⟨%h2, HSI⟩
  ihave H := (agree s' _ _ _) $$ [A3 HSI]; · isplitl [A3] <;> iassumption
  icases H with ⟨%h3, HSI⟩
  ihave H := (agree s' _ _ _) $$ [A4 HSI]; · isplitl [A4] <;> iassumption
  icases H with ⟨%h4, HSI⟩
  ihave H := (agree s' _ _ _) $$ [A5 HSI]; · isplitl [A5] <;> iassumption
  icases H with ⟨%h5, HSI⟩
  ihave H := (agree s' _ _ _) $$ [A6 HSI]; · isplitl [A6] <;> iassumption
  icases H with ⟨%h6, HSI⟩
  ihave H := (agree s' _ _ _) $$ [B3 HSI]; · isplitl [B3] <;> iassumption
  icases H with ⟨%h7, -⟩
  ipureintro
  exact ⟨⟨h0, h1, h2, h3, h4, h5, h6⟩, e, s, hes, h7⟩

/-- What every run leaves. -/
def QC : PUnit × MemSt nD τ sig (Elt F) → Prop := fun r =>
  (∀ d : Dev nD, (r.2.mem ((d.tc : Thread nD τ).loc main_arg0) = m ((d.tc : Thread nD τ).loc main_arg0)
    ∧ r.2.mem ((d.tc : Thread nD τ).loc main_arg1) = m ((d.tc : Thread nD τ).loc main_arg1)
    ∧ r.2.mem ((d.tc : Thread nD τ).loc main_arg2) = m ((d.tc : Thread nD τ).loc main_arg2)
    ∧ r.2.mem ((d.tc : Thread nD τ).loc main_arg3) = m ((d.tc : Thread nD τ).loc main_arg3)
    ∧ r.2.mem ((d.tc : Thread nD τ).loc main_arg4) = m ((d.tc : Thread nD τ).loc main_arg4)
    ∧ r.2.mem ((d.tc : Thread nD τ).loc main_arg5) = m ((d.tc : Thread nD τ).loc main_arg5)
    ∧ r.2.mem ((d.tc : Thread nD τ).loc main_arg6) = m ((d.tc : Thread nD τ).loc main_arg6))
  ∧ ∃ (e : S4096x128.Idx → F .f32) (s : S32x128.Idx → F .f32), ((∀ w < 32, EmbOK m (Q1 m) d w e) ∧ ∀ w < 32, SumOK m (Q1 m) d w s)
    ∧ r.2.mem ((d.tc : Thread nD τ).loc main_v3) = mlpOut (V1 m e s) d)
  ∧ r.2.sem = fun _ => 0

/-- The run of the whole kernel, over any float values, every index word naming a row. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m (Q1 m)) (A := ∅) facts v₀
    (fun q hq => match q with | 0 => nomatch hq)
    (fun q _ => match q with | 0 => tileObl m (Q1 m) facts hpre)
    (fun q _ => match q with | 0 => SparseCore.Cfg.VecSplit.of_plain (vecSplit m (Q1 m)))
    m ρ main G (FIN m) (u₀ (F := F)) (sep_elim_left.trans (hu₀ m)) (hmain m ρ) (fq m) (hfin m) (QC m) (fun _ h hz => ⟨h, hz⟩)

end Cert.Proof.Bag

end

end
-- ==== Proof.Frames.lean ====
/-
  The frames: what the precondition says of the index words, and each program's run.
-/
module

public import proofs.«01_k».proof.Proof.Main
public import proofs.«01_k».proof.Defs
public import proofs.«01_k».proof.Proof.Gen.Kernel
public import proofs.«01_k».proof.Proof.Gen.ReferenceIdeal.Run
public import proofs.«01_k».proof.Proof.Gen.Pre_idx_in_table

@[expose] public section

noncomputable section

namespace Cert.Proof.Bag

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ
variable (m : (ℓ : Loc nD τ sig) → Buf (Elt F) ℓ) [FloatOps F]

/-- A word that passes both comparisons, signed, names one of the table's million rows. -/
theorem row_of_masks (v : BitVec 32) (h : IntOp.andi (IntOp.cmpi .sge v 0#32) (IntOp.cmpi .slt v 1000000#32) = 1#1) :
    v.toNat < 1000000 := by
  have both : ∀ p q : Bool, IntOp.andi (BitVec.ofBool p) (BitVec.ofBool q) = 1#1 → p = true ∧ q = true := by decide
  have h' := both _ _ h
  have h1 := h'.1
  have h2 := h'.2
  simp only [BitVec.sle_eq_decide, BitVec.slt_eq_decide, decide_eq_true_eq, BitVec.toInt_eq_toNat_cond, BitVec.toNat_ofNat,
    Nat.reducePow, Nat.reduceMod] at h1 h2
  omega

/-- The first precondition, at any float values, gives what the run asks of the launch memory. -/
theorem ok_of_idx (h : ∀ d : Dev nD, Cert.Pre_idx_in_table.fn (F := F) (m ((d.tc : Thread nD τ).loc main_arg0))
    (m ((d.tc : Thread nD τ).loc main_arg1)) (m ((d.tc : Thread nD τ).loc main_arg2)) (m ((d.tc : Thread nD τ).loc main_arg3))
    (m ((d.tc : Thread nD τ).loc main_arg4)) (m ((d.tc : Thread nD τ).loc main_arg5)) (m ((d.tc : Thread nD τ).loc main_arg6))
      = fun _ => 1#1) : PreOK m := by
  intro d j
  have e := congrFun (h d) j
  simp only [Cert.Pre_idx_in_table.fn, andi, cmpi, broadcastInDim, constantI] at e
  exact row_of_masks _ e

/-- The two programs have one body table. -/
theorem defs₀_eq : Cert.Kernel.defs₀ (F := F) = Cert.KernelIdeal.defs₀ (F := F) := by
  funext p ℓ a
  match p, ℓ, a with
  | .tc, 0, a => rfl
  | .tc, 1, a => rfl
  | .tc, 2, a => rfl
  | .scScalar c, 0, a => rfl
  | .scScalar c, 1, a => rfl
  | .scScalar c, 2, a => rfl
  | .scVector c s, 0, a => rfl
  | .scVector c s, 1, a => rfl
  | .scVector c s, 2, a => rfl

/-- So with the launches around it. -/
theorem defs_eq : Cert.Kernel.defs (F := F) = Cert.KernelIdeal.defs (F := F) :=
  congrArg (fun D => (Cert.KernelIdeal.sc (F := F)).defs (Pipeline.defs Cert.KernelIdeal.pcfgs D)) defs₀_eq

/-- `Cert.quiescent_Kernel`: the run at the machine's own floats, the two programs having one text. -/
theorem frame_kernel : Cert.quiescent_Kernel := by
  intro m ρ h
  rw [defs_eq (F := Bits)]
  have hrun : θ_run (Cert.KernelIdeal.defs (F := Bits)) (Cert.Kernel.threads (F := Bits)) ⟨m, fun _ => 0, ρ⟩ (QC (F := Bits) m) :=
    run_main (F := Bits) m ρ (ok_of_idx m h)
  exact (θ_run Cert.KernelIdeal.defs _ _).mono (fun _ h => ⟨fun c => (h.1 c).1, h.2⟩) hrun

/-- `Cert.quiescent_KernelIdeal`: the run at the extended reals. -/
theorem frame_kernelIdeal : Cert.quiescent_KernelIdeal := fun m ρ h =>
  (θ_run Cert.KernelIdeal.defs _ _).mono (fun _ h => ⟨fun c => (h.1 c).1, h.2⟩) (run_main (F := Ideal) m ρ (ok_of_idx m h))

/-- `Cert.quiescent_ReferenceIdeal`: a straight line of host operations, and no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Bag

end

end
-- ==== Proof.TransVal.lean ====
/-
  What one step of the packing call computes over the extended reals: the transposed block, by a product with the identity.
-/
module

public import proofs.«01_k».proof.Proof.Gen.KernelIdeal.Skeleton
public import Idealize.ShloMosaic.Lib.Pointwise

@[expose] public section

noncomputable section

namespace Cert.Proof.Bag

open Idealize.ShloMosaic Idealize.SL.Sem

open Cert.KernelIdeal Cert.KernelIdeal.Gen

/-- The entry of the identity matrix that the kernel builds by comparing two counters: one where they agree. -/
theorem delta_val (a : Fin 64) (b : ℕ) (hb : b < 64) :
    (FloatOps.sitofp (F := Ideal) .f32
      (BitVec.setWidth 32 (IntOp.cmpi .eq (IntOp.addi (BitVec.ofNat 32 a.val) 0#32) (BitVec.ofNat 32 b))) : EReal)
      = if a.val = b then 1 else 0 := by
  have e : IntOp.cmpi .eq (IntOp.addi (BitVec.ofNat 32 a.val) 0#32) (BitVec.ofNat 32 b)
      = BitVec.ofBool (decide (a.val = b)) := by
    have : (BitVec.ofNat 32 a.val + 0#32 = BitVec.ofNat 32 b) ↔ a.val = b := by
      rw [BitVec.add_zero]
      constructor
      · intro h
        have := congrArg BitVec.toNat h
        simp only [BitVec.toNat_ofNat] at this
        omega
      · intro h; rw [h]
    show BitVec.ofBool (decide (BitVec.ofNat 32 a.val + 0#32 = BitVec.ofNat 32 b)) = _
    rw [decide_eq_decide.2 this]
  rw [e]
  by_cases h : a.val = b
  · rw [if_pos h, decide_eq_true h]
    show (((BitVec.setWidth 32 (BitVec.ofBool true)).toInt : ℝ) : EReal) = 1
    have : (BitVec.setWidth 32 (BitVec.ofBool true)).toInt = 1 := by decide
    rw [this]; norm_num
  · rw [if_neg h, decide_eq_false h]
    show (((BitVec.setWidth 32 (BitVec.ofBool false)).toInt : ℝ) : EReal) = 0
    have : (BitVec.setWidth 32 (BitVec.ofBool false)).toInt = 0 := by decide
    rw [this]; norm_num

/-- One block of the packed table: in its first 64 columns, row `r` holds column `r` of the transposed block. -/
theorem k0_pay1_val (v : Vec Ideal S64x16384 .f32) (r : Fin 16384) (c : Fin 128) (h : c.val < 64) :
    k0_pay1 (F := Ideal) v (ix2 r c) = v (ix2 (⟨c.val, h⟩ : Fin 64) r) := by
  pointwise [k0_pay1]
  rw [dif_pos h]
  rw [Finset.sum_eq_single (⟨c.val, h⟩ : Fin 64)]
  · rw [delta_val _ _ h, if_pos rfl]; exact mul_one (M := EReal) _
  · intro b _ hb
    rw [delta_val _ _ h, if_neg (fun e => hb (Fin.ext e))]; exact mul_zero (M₀ := EReal) _
  · intro hn; exact absurd (Finset.mem_univ _) hn

end Cert.Proof.Bag

end

end
-- ==== Proof.TableVal.lean ====
/-
  What the packed table holds over the extended reals after the packing call.
-/
module

public import proofs.«01_k».proof.Proof.Main
public import proofs.«01_k».proof.Proof.TransVal
public import Idealize.ShloMosaic.Lib.Pipeline.ArrRel
public import Idealize.ShloMosaic.Lib.Pipeline.ValueKit.Geometry

@[expose] public section

noncomputable section

namespace Cert.Proof.Bag

open Idealize.ShloMosaic Idealize.SL.Sem

open Cert.KernelIdeal Cert.KernelIdeal.Gen

variable (m : (ℓ : Loc nD τ sig) → Buf (Elt Ideal) ℓ)

/-- The embedding table as the launch holds it. -/
abbrev embT (d : Dev nD) : S1000000x64.Idx → EReal := m ((d.tc : Thread nD τ).loc main_arg2)

/-- The transposed table at a row and a column. -/
theorem tableT_val (d : Dev nD) (a : Fin 64) (b : Fin 1000000) : tableT (F := Ideal) m d (ix2 a b) = embT m d (ix2 b a) := by
  unfold tableT
  pointwise

/-- Element `(r, c)` of the packed table holds the table's element, in the first 64 columns. -/
def HoldsAt (d : Dev nD) (i : S1000000x128.Idx) (v : EReal) : Prop :=
  ∀ h : (i 1).val < 64, v = embT m d (ix2 (i 0) ⟨(i 1).val, h⟩)

/-- The block a point stages and the one it writes back are cut alike, and sit at the point's position. -/
theorem geom0 : ∀ t : Fin grid0.N,
    win0_0.xsize (grid0.coords t) 0 = 64 ∧ win0_0.xsize (grid0.coords t) 1 = win0_1.xsize (grid0.coords t) 0
      ∧ win0_0.index t 0 = 0 ∧ win0_0.index t 1 = t.val ∧ win0_1.index t 0 = t.val ∧ win0_1.index t 1 = 0 := by
  decide +kernel

/-- A staged element whose column the array has is the table's element at that column. -/
theorem staged_val (d : Dev nD) (t : Fin cfg0.N) (dd : S64x16384.Idx → EReal) (a : Fin 64) (b : Fin 16384)
    (hb : b.val < win0_1.xsize (grid0.coords t) 0) (r : Fin 1000000) (hr : r.val = t.val * 16384 + b.val) :
    win0_0.fill (grid0.coords t) dd (tpBlock (F := Ideal) (V0 m) d t) (ix2 a b) = embT m d (ix2 r a) := by
  obtain ⟨g0, g1, g2, g3, g4, g5⟩ := geom0 t
  let j : (win0_0.xblock (grid0.coords t)).Idx := fun x => match x with
    | ⟨0, _⟩ => ⟨a.val, lt_of_lt_of_eq a.isLt g0.symm⟩
    | ⟨1, _⟩ => ⟨b.val, lt_of_lt_of_eq hb g1.symm⟩
  have hj : ix2 a b = win0_0.xinj (grid0.coords t) j :=
    (eq_ix2 (n0 := 64) (n1 := 16384) (win0_0.xinj (grid0.coords t) j)).symm
  refine (congrArg (win0_0.fill (grid0.coords t) dd (tpBlock (F := Ideal) (V0 m) d t)) hj).trans ?_
  refine (win0_0.fill_xinj (grid0.coords t) dd _ j).trans ?_
  have f0 : (((win0_0.blk t).view.emb j 0 : Fin _) : ℕ) = a.val := by
    blk_simp
    rw [g2]; show 0 * 64 + a.val = _; omega
  have f1 : (((win0_0.blk t).view.emb j 1 : Fin _) : ℕ) = r.val := by
    blk_simp
    rw [g3, hr]; rfl
  have hi : (win0_0.blk t).view.emb j = (ix2 a r : S64x1000000.Idx) :=
    (eq_ix2 (n0 := 64) (n1 := 1000000) ((win0_0.blk t).view.emb j)).trans (congrArg₂ ix2 (Fin.ext f0) (Fin.ext f1))
  exact (congrFun (V0_v0 m d) _).trans ((congrArg (tableT (F := Ideal) m d) hi).trans (tableT_val m d a r))

/-- What one point leaves at a written element: the table's element. -/
theorem packed_point (d : Dev nD) (t : Fin cfg0.N) (dd : S64x16384.Idx → EReal)
    (y : (win0_1.xblock (grid0.coords t)).Idx) :
    HoldsAt m d ((win0_1.blk t).view.emb y)
      (k0_pay1 (F := Ideal) (win0_0.fill (grid0.coords t) dd (tpBlock (F := Ideal) (V0 m) d t)) (win0_1.xinj (grid0.coords t) y)) := by
  intro h
  obtain ⟨g0, g1, g2, g3, g4, g5⟩ := geom0 t
  have e0 : (((win0_1.blk t).view.emb y 0 : Fin _) : ℕ) = t.val * 16384 + (y 0).val := by
    blk_simp
    rw [g4]
  have e1 : (((win0_1.blk t).view.emb y 1 : Fin _) : ℕ) = (y 1).val := by
    blk_simp
    rw [g5]; omega
  have hc : (y 1).val < 64 := e1 ▸ h
  have hb : (y 0).val < 16384 := (win0_1.xinj (grid0.coords t) y 0).isLt
  have hx : win0_1.xinj (grid0.coords t) y = (ix2 ⟨(y 0).val, hb⟩ ⟨(y 1).val, hc.trans (by decide)⟩ : S16384x128.Idx) :=
    eq_ix2 (n0 := 16384) (n1 := 128) (win0_1.xinj (grid0.coords t) y)
  have k1 := k0_pay1_val (win0_0.fill (grid0.coords t) dd (tpBlock (F := Ideal) (V0 m) d t)) ⟨(y 0).val, hb⟩ ⟨(y 1).val, hc.trans (by decide)⟩ hc
  have k2 := staged_val m d t dd ⟨(y 1).val, hc⟩ ⟨(y 0).val, hb⟩ (y 0).isLt ((win0_1.blk t).view.emb y 0) e0
  refine (congrArg _ hx).trans (k1.trans (k2.trans (congrArg (embT m d) (congrArg (ix2 _) (Fin.ext e1.symm)))))

/-- The packed table holds the embedding table in its first 64 columns. -/
theorem packed_val (d : Dev nD) (f : S1000000x128.Idx → EReal) (hf : Q1 (F := Ideal) m d f) (r : Fin 1000000) (c : Fin 64) :
    f (ix2 r (⟨c.val, by omega⟩ : Fin 128)) = embT m d (ix2 r c) := by
  obtain ⟨X, hX, hA⟩ := Pipeline.RDat.ArrAt.exists_exact (rd := rd0 (F := Ideal) (O0 (F := Ideal)) 0 (V0 m) d) (w := (1 : Fin 2)) (n := cfg0.N) hf
  let after : (w' : Fin cfg0.W) → Fin cfg0.N → (cfg0.win w').block.Idx → Elt Ideal (cfg0.win w').elt := fun w' => match w' with
    | ⟨0, _⟩ => fun _ _ => (0 : EReal)
    | ⟨1, _⟩ => X
  have he := hA after (fun _ _ _ => rfl)
  have hall := Pipeline.Dat.arrAt_forall_of_covers ((rd0 (F := Ideal) (O0 (F := Ideal)) 0 (V0 m) d).withAfter after) (1 : Fin 2)
    (HoldsAt m d) (by decide +kernel) (fun t hfl y => by
      obtain ⟨Y, -, dd, hXt⟩ := hX t t.isLt hfl
      have key := packed_point m d t dd y
      rw [← hXt] at key
      exact key) (ix2 r (⟨c.val, by omega⟩ : Fin 128)) (Memref.isWhole_whole _)
  rw [← he] at hall
  exact hall c.isLt

end Cert.Proof.Bag

end

end
-- ==== Proof.SparseVal.lean ====
/-
  What the SparseCore call leaves over the extended reals, as rows of the embedding table and sums of them.
-/
module

public import proofs.«01_k».proof.Proof.TableVal

@[expose] public section

noncomputable section

namespace Cert.Proof.Bag

open Idealize.ShloMosaic Idealize.SL.Sem

open Cert.KernelIdeal Cert.KernelIdeal.Gen

/-- Row `j` of the gathered table in lane `c`: the table's row that index word `j` names. -/
def rowN (T : S1000000x64.Idx → EReal) (X : S204800.Idx → BitVec 32) (j : ℕ) (c : Fin 64) : EReal :=
  T (ix2 (rowOfWord (X (ix1 ⟨j % 204800, Nat.mod_lt _ (by decide)⟩))) c)

/-- The sum of the rows of the last bag, which begins at word 4095. -/
def tailSum (T : S1000000x64.Idx → EReal) (X : S204800.Idx → BitVec 32) (c : Fin 64) : EReal :=
  ∑ j ∈ Finset.range 200705, rowN T X (4095 + j) c

/-- The mean of bag `i`: one row for every bag but the last, which holds 200705. -/
def pooled (T : S1000000x64.Idx → EReal) (X : S204800.Idx → BitVec 32) (i : Fin 4096) (c : Fin 64) : EReal :=
  if i.val = 4095 then Ideal.div (tailSum T X c) 200705 else rowN T X i.val c

/-- The word pattern of the last bag's size. -/
theorem size_val : Ideal.ofBits .f32 0x48440040#32 = 200705 := by
  rw [show (200705 : EReal) = ((200705 : ℝ) : EReal) by norm_cast]
  simp [Ideal.ofBits, Ideal.ieee, -EReal.coe_mul]; norm_num

/-- Sums over consecutive stretches of one length join into one sum. -/
theorem sum_stretches {M : Type} [AddCommMonoid M] (g : ℕ → M) (b L n : ℕ) :
    ∑ w ∈ Finset.range n, ∑ k ∈ Finset.range L, g (b + L * w + k) = ∑ j ∈ Finset.range (L * n), g (b + j) := by
  induction n with
  | zero => simp
  | succ n ih =>
    rw [Finset.sum_range_succ, ih, Nat.mul_succ, Finset.sum_range_add]
    congr 1
    exact Finset.sum_congr rfl fun k _ => by rw [Nat.add_assoc]

/-- A sum and the term before it make one sum. -/
theorem sum_first {M : Type} [AddCommMonoid M] (g : ℕ → M) (b n N : ℕ) (h : N = n + 1) :
    (∑ j ∈ Finset.range n, g (b + 1 + j)) + g b = ∑ j ∈ Finset.range N, g (b + j) := by
  subst h
  rw [Finset.sum_range_succ']
  congr 1
  exact Finset.sum_congr rfl fun k _ => by rw [Nat.add_assoc, Nat.add_comm 1 k]

/-- The 32 partial sums and the row of word 4095 make the last bag's sum. -/
theorem tailSum_of_parts (T : S1000000x64.Idx → EReal) (X : S204800.Idx → BitVec 32) (c : Fin 64) :
    (∑ w : Fin 32, ∑ k ∈ Finset.range 6272, rowN T X (4096 + 6272 * w.val + k) c) + rowN T X 4095 c = tailSum T X c := by
  rw [Fin.sum_univ_eq_sum_range (fun w => ∑ k ∈ Finset.range 6272, rowN T X (4096 + 6272 * w + k) c) 32,
    sum_stretches (fun j => rowN T X j c)]
  exact sum_first (fun j => rowN T X j c) 4095 (6272 * 32) 200705 (by norm_num)

/-- A sum over all words of those at or after word 4095 is the last bag's sum. -/
theorem tailSum_of_filter (T : S1000000x64.Idx → EReal) (X : S204800.Idx → BitVec 32) (c : Fin 64) :
    (∑ j : Fin 204800, if 4095 ≤ j.val then rowN T X j.val c else 0) = tailSum T X c := by
  rw [Fin.sum_univ_eq_sum_range (fun j => if 4095 ≤ j then rowN T X j c else 0) 204800,
    show 204800 = 4095 + 200705 from rfl, Finset.sum_range_add,
    Finset.sum_eq_zero fun j hj => if_neg (by have := Finset.mem_range.1 hj; omega), zero_add]
  exact Finset.sum_congr rfl fun k _ => if_pos (Nat.le_add_right _ _)

/-- There are as many words at or after word 4095 as the last bag's size says. -/
theorem count_of_filter : (∑ j : Fin 204800, if 4095 ≤ j.val then (1 : EReal) else 0) = 200705 := by
  rw [Fin.sum_univ_eq_sum_range (fun j => if 4095 ≤ j then (1 : EReal) else 0) 204800,
    show 204800 = 4095 + 200705 from rfl, Finset.sum_range_add,
    Finset.sum_eq_zero fun j hj => if_neg (by have := Finset.mem_range.1 hj; omega), zero_add,
    Finset.sum_congr rfl fun k _ => if_pos (Nat.le_add_right _ _), Finset.sum_const, Finset.card_range]
  simp

variable (m : (ℓ : Loc nD τ sig) → Buf (Elt Ideal) ℓ)

/-- The index words as the launch holds them. -/
abbrev wordsX (d : Dev nD) : S204800.Idx → BitVec 32 := m (inLoc d)

/-- Lane `c` of the packed table's row that word `j` names. -/
theorem rowAt_val (d : Dev nD) (f : S1000000x128.Idx → EReal) (hf : Q1 (F := Ideal) m d f) (j : ℕ) (c : Fin 64) :
    rowAt (F := Ideal) f (inp m d j) ⟨c.val, by omega⟩ = rowN (embT m d) (wordsX m d) j c := by
  unfold rowAt rowN inp
  rw [← ix2_eq_valueIdx, packed_val m d f hf]
  rfl

/-- A subcore's running sum is a sum of rows. -/
theorem accN_val (d : Dev nD) (f : S1000000x128.Idx → EReal) (hf : Q1 (F := Ideal) m d f) (base n : ℕ) (c : Fin 64) :
    accN (F := Ideal) m f d base n ⟨c.val, by omega⟩ = ∑ k ∈ Finset.range n, rowN (embT m d) (wordsX m d) (base + k) c := by
  induction n with
  | zero => exact Ideal.ofBits_zero_f32
  | succ n ih =>
    rw [Finset.sum_range_succ, ← ih, ← rowAt_val m d f hf]
    rfl

/-- The gathered rows, in the first 64 lanes. -/
theorem emb_val (d : Dev nD) (e : S4096x128.Idx → EReal) (he : ∀ w < 32, EmbOK (F := Ideal) m (Q1 m) d w e) (i : Fin 4096) (c : Fin 64) :
    e (ix2 i (⟨c.val, by omega⟩ : Fin 128)) = rowN (embT m d) (wordsX m d) i.val c := by
  obtain ⟨f, hf, h⟩ := he (i.val / 128) (by omega)
  exact (h (ix2 i (⟨c.val, by omega⟩ : Fin 128)) rfl).trans (rowAt_val m d f hf i.val c)

/-- The partial sums, in the first 64 lanes. -/
theorem sums_val (d : Dev nD) (s : S32x128.Idx → EReal) (hs : ∀ w < 32, SumOK (F := Ideal) m (Q1 m) d w s) (w : Fin 32) (c : Fin 64) :
    s (ix2 w (⟨c.val, by omega⟩ : Fin 128)) = ∑ k ∈ Finset.range 6272, rowN (embT m d) (wordsX m d) (4096 + 6272 * w.val + k) c := by
  obtain ⟨f, hf, h⟩ := hs w.val w.isLt
  exact (h (ix2 w (⟨c.val, by omega⟩ : Fin 128)) rfl c.isLt).trans (accN_val m d f hf _ _ c)

end Cert.Proof.Bag

end

end
-- ==== Proof.Spec.lean ====
/-
  The function both programs compute after the bags are pooled: a two-layer perceptron and the logarithm of the softmax, row by row.
-/
module

public import Idealize.ShloMosaic.Lib.Pointwise

@[expose] public section

noncomputable section

namespace Cert.Proof.Bag

open Idealize.ShloMosaic Idealize.SL.Sem

/-- The two-layer perceptron's output for one row of features. -/
def logit (p : Fin 64 → EReal) (w1 : Fin 64 → Fin 256 → EReal) (b1 : Fin 256 → EReal) (w2 : Fin 256 → Fin 64 → EReal) (b2 : Fin 64 → EReal)
    (k : Fin 64) : EReal :=
  ∑ h, max (∑ e, p e * w1 e h + b1 h) 0 * w2 h k + b2 k

/-- A row less its maximum. -/
def shifted (l : Fin 64 → EReal) (k : Fin 64) : EReal :=
  l k - Finset.fold max (Ideal.ofBits .f32 0xFF800000#32) l Finset.univ

/-- The logarithm of a row's softmax. -/
def logSoftmax (l : Fin 64 → EReal) (k : Fin 64) : EReal :=
  shifted l k - Ideal.log (∑ x, Ideal.exp (shifted l x))

end Cert.Proof.Bag

end

end
-- ==== Proof.KernelVal.lean ====
/-
  What the kernel's result is over the extended reals.
-/
module

public import proofs.«01_k».proof.Proof.SparseVal
public import proofs.«01_k».proof.Proof.Spec

@[expose] public section

noncomputable section

namespace Cert.Proof.Bag

open Idealize.ShloMosaic Idealize.SL.Sem

open Cert.KernelIdeal Cert.KernelIdeal.Gen
set_option maxRecDepth 16384

variable (e : S4096x128.Idx → EReal) (s : S32x128.Idx → EReal) (w1 : S64x256.Idx → EReal) (b1 : S256.Idx → EReal)
    (w2 : S256x64.Idx → EReal) (b2 : S64.Idx → EReal)

/-- The features the perceptron's body reads: the gathered row, and in row 4095 the mean of sums and row. -/
def feature (i : Fin 4096) (c : Fin 64) : EReal :=
  Scalar.select (IntOp.cmpi .eq (BitVec.ofNat 32 i.val) 4095#32)
    (Ideal.div (∑ w : Fin 32, s (ix2 w (⟨c.val, by omega⟩ : Fin 128)) + e (ix2 (4095 : Fin 4096) (⟨c.val, by omega⟩ : Fin 128)))
      (Ideal.ofBits .f32 0x48440040#32))
    (e (ix2 i (⟨c.val, by omega⟩ : Fin 128)))

/-- The body's logits less their row's maximum. -/
theorem k2_pay2_val (i : Fin 4096) (k : Fin 64) :
    k2_pay2 (F := Ideal) e s w1 b1 w2 b2 (ix2 i k)
      = shifted (logit (feature e s i) (fun a b => w1 (ix2 a b)) (fun a => b1 (ix1 a)) (fun a b => w2 (ix2 a b)) (fun a => b2 (ix1 a))) k := by
  pointwise [k2_pay2]
  rfl

/-- The body's logarithms of sums of exponentials. -/
theorem k2_pay3_val (i : Fin 4096) (k : Fin 64) :
    k2_pay3 (F := Ideal) e s w1 b1 w2 b2 (ix2 i k) = Ideal.log (∑ x : Fin 64, Ideal.exp (k2_pay2 (F := Ideal) e s w1 b1 w2 b2 (ix2 i x))) := by
  pointwise [k2_pay3]

/-- The body's result. -/
theorem mlpVal_val (i : Fin 4096) (k : Fin 64) :
    mlpVal (F := Ideal) e s w1 b1 w2 b2 (ix2 i k)
      = logSoftmax (logit (feature e s i) (fun a b => w1 (ix2 a b)) (fun a => b1 (ix1 a)) (fun a b => w2 (ix2 a b)) (fun a => b2 (ix1 a))) k := by
  have h : mlpVal (F := Ideal) e s w1 b1 w2 b2 (ix2 i k)
      = k2_pay2 (F := Ideal) e s w1 b1 w2 b2 (ix2 i k) - k2_pay3 (F := Ideal) e s w1 b1 w2 b2 (ix2 i k) := rfl
  rw [h, k2_pay3_val, k2_pay2_val]
  simp only [k2_pay2_val]
  rfl

variable (m : (ℓ : Loc nD τ sig) → Buf (Elt Ideal) ℓ)

/-- The features are the bags' means. -/
theorem feature_val (d : Dev nD) (he : ∀ w < 32, EmbOK (F := Ideal) m (Q1 m) d w e) (hs : ∀ w < 32, SumOK (F := Ideal) m (Q1 m) d w s)
    (i : Fin 4096) (c : Fin 64) : feature e s i c = pooled (embT m d) (wordsX m d) i c := by
  unfold feature pooled
  simp only [sums_val m d s hs, emb_val m d e he]
  rw [size_val, show ((4095 : Fin 4096).val) = 4095 from rfl, tailSum_of_parts]
  by_cases h : i.val = 4095
  · rw [if_pos h, h]; rfl
  · rw [if_neg h]
    have : IntOp.cmpi .eq (BitVec.ofNat 32 i.val) 4095#32 = 0#1 := by
      have hne : BitVec.ofNat 32 i.val ≠ 4095#32 := fun hh => h (by
        have := congrArg BitVec.toNat hh
        simp only [BitVec.toNat_ofNat] at this
        omega)
      show BitVec.ofBool (decide (BitVec.ofNat 32 i.val = 4095#32)) = 0#1
      rw [decide_eq_false hne]; rfl
    rw [this]; rfl

/-- The function that the kernel computes, of its seven arguments: the logarithm of the softmax of the perceptron of the bags' means. -/
def target (X : S204800.Idx → BitVec 32) (T : S1000000x64.Idx → EReal) (i : Fin 4096) (k : Fin 64) : EReal :=
  logSoftmax (logit (pooled T X i) (fun a b => w1 (ix2 a b)) (fun a => b1 (ix1 a)) (fun a b => w2 (ix2 a b)) (fun a => b2 (ix1 a))) k

/-- Window 0 of the perceptron's call, the gathered rows, reads the whole array. -/
theorem read2_0 (g : S4096x128.Idx → EReal) : (win2_0.blk t2_0).view.read (Elt Ideal) g = g := by
  funext x; exact congrArg g (funext fun a => Fin.ext (by blk_simp; exact (congrArg (· + _) (Nat.zero_mul _)).trans (Nat.zero_add _)))

/-- Window 1 of the perceptron's call, the partial sums, reads the whole array. -/
theorem read2_1 (g : S32x128.Idx → EReal) : (win2_1.blk t2_0).view.read (Elt Ideal) g = g := by
  funext x; exact congrArg g (funext fun a => Fin.ext (by blk_simp; exact (congrArg (· + _) (Nat.zero_mul _)).trans (Nat.zero_add _)))

/-- Window 2 of the perceptron's call, the first layer's matrix, reads the whole array. -/
theorem read2_2 (g : S64x256.Idx → EReal) : (win2_2.blk t2_0).view.read (Elt Ideal) g = g := by
  funext x; exact congrArg g (funext fun a => Fin.ext (by blk_simp; exact (congrArg (· + _) (Nat.zero_mul _)).trans (Nat.zero_add _)))

/-- Window 3 of the perceptron's call, the first layer's offsets, reads the whole array. -/
theorem read2_3 (g : S256.Idx → EReal) : (win2_3.blk t2_0).view.read (Elt Ideal) g = g := by
  funext x; exact congrArg g (funext fun a => Fin.ext (by blk_simp; exact (congrArg (· + _) (Nat.zero_mul _)).trans (Nat.zero_add _)))

/-- Window 4 of the perceptron's call, the second layer's matrix, reads the whole array. -/
theorem read2_4 (g : S256x64.Idx → EReal) : (win2_4.blk t2_0).view.read (Elt Ideal) g = g := by
  funext x; exact congrArg g (funext fun a => Fin.ext (by blk_simp; exact (congrArg (· + _) (Nat.zero_mul _)).trans (Nat.zero_add _)))

/-- Window 5 of the perceptron's call, the second layer's offsets, reads the whole array. -/
theorem read2_5 (g : S64.Idx → EReal) : (win2_5.blk t2_0).view.read (Elt Ideal) g = g := by
  funext x; exact congrArg g (funext fun a => Fin.ext (by blk_simp; exact (congrArg (· + _) (Nat.zero_mul _)).trans (Nat.zero_add _)))

/-- The kernel's result at a row and a column. -/
theorem kernel_val (d : Dev nD) (he : ∀ w < 32, EmbOK (F := Ideal) m (Q1 m) d w e) (hs : ∀ w < 32, SumOK (F := Ideal) m (Q1 m) d w s)
    (i : Fin 4096) (k : Fin 64) :
    mlpOut (F := Ideal) (V1 m e s) d (ix2 i k)
      = target (m ((d.tc : Thread nD τ).loc main_arg3)) (m ((d.tc : Thread nD τ).loc main_arg4)) (m ((d.tc : Thread nD τ).loc main_arg5))
        (m ((d.tc : Thread nD τ).loc main_arg6)) (wordsX m d) (embT m d) i k := by
  have r0 : (win2_0.blk t2_0).view.read (Elt Ideal) (V1 (F := Ideal) m e s d main_v2_0) = e := (read2_0 _).trans (V1_e m e s d)
  have r1 : (win2_1.blk t2_0).view.read (Elt Ideal) (V1 (F := Ideal) m e s d main_v2_1) = s := (read2_1 _).trans (V1_s m e s d)
  have r2 := (read2_2 _).trans (V1_arg m e s d main_arg3 (by decide) (by decide))
  have r3 := (read2_3 _).trans (V1_arg m e s d main_arg4 (by decide) (by decide))
  have r4 := (read2_4 _).trans (V1_arg m e s d main_arg5 (by decide) (by decide))
  have r5 := (read2_5 _).trans (V1_arg m e s d main_arg6 (by decide) (by decide))
  unfold mlpOut
  rw [r0, r1, r2, r3, r4, r5, mlpVal_val]
  unfold target
  rw [show feature e s i = pooled (embT m d) (wordsX m d) i from funext fun c => feature_val e s m d he hs i c]

end Cert.Proof.Bag

end

end
-- ==== Proof.RefTerm.lean ====
/-
  The reference's composed term, cut at its named steps.
-/
module

public import proofs.«01_k».proof.Proof.Gen.ReferenceIdeal.Run
public import proofs.«01_k».proof.Proof.Spec

@[expose] public section

noncomputable section

namespace Cert.Proof.Bag

open Idealize.ShloMosaic Idealize.SL.Sem

open Cert.ReferenceIdeal Cert.ReferenceIdeal.Gen Cert.ReferenceIdeal.Value
set_option maxRecDepth 16384

/-- The reference's index words, a negative one moved up by the table's height, as a column. -/
def refIdx (X : IVec S204800 32) : IVec S204800x1 32 :=
  broadcastInDim S204800x1 ![0] bcast_S204800_S204800x1_0
    (select (cmpi .slt X (broadcastInDim S204800 ![] bcast_S_S204800 (constantI S_ 32 0#32)))
      (addi X (broadcastInDim S204800 ![] bcast_S_S204800 (constantI S_ 32 1000000#32))) X)

/-- The reference's mask of the index words that name a row. -/
def refMask (X : IVec S204800 32) : IVec S204800 1 :=
  Host.reduce IntOp.andi
    (andi (cmpi .sge (refIdx X) (broadcastInDim S204800x1 ![] bcast_S_S204800x1 (constantI S_ 32 0#32)))
      (cmpi .sle (refIdx X) (broadcastInDim S204800x1 ![0, 1] bcast_S1x1_S204800x1_0_1 (broadcastInDim S1x1 ![1] bcast_S1_S1x1_1 (constantI S1 32 999999#32)))))
    (constantI S_ 1 1#1) reducesTo_S204800x1_S204800_d1 h_S_

/-- The reference's gathered rows. -/
def refRows (T : FVec Ideal S1000000x64 .f32) (X : IVec S204800 32) : FVec Ideal S204800x64 .f32 :=
  select (broadcastInDim S204800x64 ![0] bcast_S204800_S204800x64_0 (refMask X))
    (Host.gather gather_S1000000x64_S204800x1_S204800x64_1_0_n_n_0_1_164 T (refIdx X))
    (broadcastInDim S204800x64 ![] bcast_S_S204800x64 (constant S_ .f32 0x7FC00000#32))

/-- The reference's mask of the bags that begin at or before a word. -/
def refBegun (O : IVec S4096 32) : IVec S204800x4096 1 :=
  cmpi .sle (broadcastInDim S204800x4096 ![0, 1] bcast_S1x4096_S204800x4096_0_1 (broadcastInDim S1x4096 ![1] bcast_S4096_S1x4096_1 O))
    (broadcastInDim S204800x4096 ![0, 1] bcast_S204800x1_S204800x4096_0_1 (broadcastInDim S204800x1 ![0] bcast_S204800_S204800x1_0 (iotaInDim S204800 32 0)))

/-- The reference's bag of each word, as a column. -/
def refSeg (O : IVec S4096 32) : IVec S204800x1 32 :=
  broadcastInDim S204800x1 ![0] bcast_S204800_S204800x1_0
    (subi (Host.reduce IntOp.addi (extui 32 (refBegun O) natLt_1_32) (constantI S_ 32 0#32) reducesTo_S204800x4096_S204800_d1 h_S_)
      (broadcastInDim S204800 ![] bcast_S_S204800 (constantI S_ 32 1#32)))

/-- The reference's sums of the bags' rows. -/
def refSum (seg : IVec S204800x1 32) (R : FVec Ideal S204800x64 .f32) : FVec Ideal S4096x64 .f32 :=
  Host.scatterAdd scatter_S4096x64_S204800x1_S204800x64_1_0_0_1 (broadcastInDim S4096x64 ![] bcast_S_S4096x64 (constant S_ .f32 0x00000000#32)) seg R

/-- The reference's sizes of the bags. -/
def refCount (seg : IVec S204800x1 32) : FVec Ideal S4096 .f32 :=
  Host.scatterAdd scatter_S4096_S204800x1_S204800_n_0_0_1 (broadcastInDim S4096 ![] bcast_S_S4096 (constant S_ .f32 0x00000000#32)) seg
    (broadcastInDim S204800 ![] bcast_S_S204800 (constant S_ .f32 0x3F800000#32))

/-- The reference's means of the bags. -/
def refPool (sums : FVec Ideal S4096x64 .f32) (counts : FVec Ideal S4096 .f32) : FVec Ideal S4096x64 .f32 :=
  Host.divf sums (broadcastInDim S4096x64 ![0, 1] bcast_S4096x1_S4096x64_0_1 (broadcastInDim S4096x1 ![0] bcast_S4096_S4096x1_0
    (maximumf counts (broadcastInDim S4096 ![] bcast_S_S4096 (constant S_ .f32 0x3F800000#32)))))

/-- The reference's perceptron. -/
def refLogits (p : FVec Ideal S4096x64 .f32) (w1 : FVec Ideal S64x256 .f32) (b1 : FVec Ideal S256 .f32) (w2 : FVec Ideal S256x64 .f32)
    (b2 : FVec Ideal S64 .f32) : FVec Ideal S4096x64 .f32 :=
  addf (Host.dotGeneral dot_S4096x256_S256x64_S4096x64_1_0_0_1_n_n none
      (maximumf (addf (Host.dotGeneral dot_S4096x64_S64x256_S4096x256_1_0_0_1_n_n none p w1)
          (broadcastInDim S4096x256 ![0, 1] bcast_S1x256_S4096x256_0_1 (broadcastInDim S1x256 ![1] bcast_S256_S1x256_1 b1)))
        (broadcastInDim S4096x256 ![] bcast_S_S4096x256 (constant S_ .f32 0x00000000#32))) w2)
    (broadcastInDim S4096x64 ![0, 1] bcast_S1x64_S4096x64_0_1 (broadcastInDim S1x64 ![1] bcast_S64_S1x64_1 b2))

/-- The reference's rows less their maxima. -/
def refShifted (l : FVec Ideal S4096x64 .f32) : FVec Ideal S4096x64 .f32 :=
  subf l (broadcastInDim S4096x64 ![0, 1] bcast_S4096x1_S4096x64_0_1 (broadcastInDim S4096x1 ![0] bcast_S4096_S4096x1_0
    (maximumf (broadcastInDim S4096 ![] bcast_S_S4096 (constant S_ .f32 0xFF800000#32))
      (Host.reduce FloatOps.maximumf l (constant S_ .f32 0xFF800000#32) reducesTo_S4096x64_S4096_d1 h_S_))))

/-- The reference's logarithm of the softmax, from the rows less their maxima. -/
def refOut (x : FVec Ideal S4096x64 .f32) : FVec Ideal S4096x64 .f32 :=
  subf x (broadcastInDim S4096x64 ![0, 1] bcast_S4096x1_S4096x64_0_1 (Host.log (broadcastInDim S4096x1 ![0] bcast_S4096_S4096x1_0
    (Host.reduceAdd (Host.exp x) (constant S_ .f32 0x00000000#32) reducesTo_S4096x64_S4096_d1 h_S_))))

/-- The reference's result, of its seven arguments. -/
def refAll (X : IVec S204800 32) (O : IVec S4096 32) (T : FVec Ideal S1000000x64 .f32) (w1 : FVec Ideal S64x256 .f32) (b1 : FVec Ideal S256 .f32)
    (w2 : FVec Ideal S256x64 .f32) (b2 : FVec Ideal S64 .f32) : FVec Ideal S4096x64 .f32 :=
  refOut (refShifted (refLogits (refPool (refSum (refSeg O) (refRows T X)) (refCount (refSeg O))) w1 b1 w2 b2))

/-- The composed term of the reference's run is `refAll` of its arguments. -/
theorem res_eq (m : (ℓ : Loc nD τ sig) → Buf (Elt Ideal) ℓ) (c : Dev nD) :
    res_main_v33 (F := Ideal) m c = refAll (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := by
  unfold res_main_v33
  rfl

end Cert.Proof.Bag

end

end
-- ==== Proof.RefVal.lean ====
/-
  What each step of the reference computes over the extended reals, at an index.
-/
module

public import proofs.«01_k».proof.Proof.RefTerm
public import Idealize.ShloMosaic.Lib.Routing.OpsPair
public import Idealize.ShloMosaic.Lib.Routing.Ops
public import Idealize.ShloMosaic.Lib.ReduceAll

@[expose] public section

noncomputable section

namespace Cert.Proof.Bag

open Idealize.ShloMosaic Idealize.SL.Sem

open Cert.ReferenceIdeal Cert.ReferenceIdeal.Gen
set_option maxRecDepth 16384

/-- The reference's perceptron at a row and a column. -/
theorem refLogits_val (p : FVec Ideal S4096x64 .f32) (w1 : FVec Ideal S64x256 .f32) (b1 : FVec Ideal S256 .f32) (w2 : FVec Ideal S256x64 .f32)
    (b2 : FVec Ideal S64 .f32) (i : Fin 4096) (k : Fin 64) :
    refLogits p w1 b1 w2 b2 (ix2 i k)
      = logit (fun c => p (ix2 i c)) (fun a b => w1 (ix2 a b)) (fun a => b1 (ix1 a)) (fun a b => w2 (ix2 a b)) (fun a => b2 (ix1 a)) k := by
  pointwise [refLogits]
  rfl

/-- The reference's rows less their maxima. -/
theorem refShifted_val (l : FVec Ideal S4096x64 .f32) (i : Fin 4096) (k : Fin 64) :
    refShifted l (ix2 i k) = shifted (fun c => l (ix2 i c)) k := by
  pointwise [refShifted]
  unfold shifted
  refine congrArg (l (ix2 i k) - ·) (max_eq_right ?_)
  exact (Finset.le_fold_max _).2 (Or.inl le_rfl)

/-- The reference's logarithm of the softmax. -/
theorem refOut_val (x : FVec Ideal S4096x64 .f32) (i : Fin 4096) (k : Fin 64) :
    refOut x (ix2 i k) = x (ix2 i k) - Ideal.log (∑ c : Fin 64, Ideal.exp (x (ix2 i c))) := by
  pointwise [refOut]

/-- The reference's means at a bag and a lane. -/
theorem refPool_val (s : FVec Ideal S4096x64 .f32) (n : FVec Ideal S4096 .f32) (i : Fin 4096) (c : Fin 64) :
    refPool s n (ix2 i c) = Ideal.div (s (ix2 i c)) (max (n (ix1 i)) 1) := by
  pointwise [refPool]

/-- An index word that names a row is left alone. -/
theorem refIdx_val (X : IVec S204800 32) (j : Fin 204800) (h : (X (ix1 j)).toNat < 1000000) :
    refIdx X (ix2 j 0) = X (ix1 j) := by
  pointwise [refIdx]
  exact Routing.wrap_of_lt _ _ (by omega)

/-- With bag `q` beginning at word `q`, the bags begun at word `j` are those up to `j`. -/
theorem refBegun_val (O : IVec S4096 32) (hO : ∀ q : Fin 4096, O (ix1 q) = BitVec.ofNat 32 q.val) (j : Fin 204800) (q : Fin 4096) :
    refBegun O (ix2 j q) = 1#1 ↔ q.val ≤ j.val := by
  pointwise [refBegun]
  rw [hO, WordCmp.cmpi_sle_ofNat_eq_one_iff (by omega) (by omega)]

/-- Every index word that names a row passes the reference's mask. -/
theorem refMask_val (X : IVec S204800 32) (h : ∀ j : Fin 204800, (X (ix1 j)).toNat < 1000000) (j : Fin 204800) :
    refMask X (ix1 j) = 1#1 := by
  unfold refMask
  refine Host.reduce_andi_one _ _ _ _ _ rfl fun i => ?_
  obtain ⟨a, b, rfl⟩ : ∃ (a : Fin 204800) (b : Fin 1), i = ix2 a b := ⟨i 0, i 1, eq_ix2 i⟩
  obtain rfl : b = 0 := Subsingleton.elim _ _
  pointwise
  rw [refIdx_val X a (h a)]
  have ha := h a
  rw [WordCmp.cmpi_sge_of_lt (by omega) (by decide), WordCmp.cmpi_sle_of_lt (by omega) (by decide),
    decide_eq_true (show (0#32).toNat ≤ _ from Nat.zero_le _), decide_eq_true (show _ ≤ (999999#32).toNat by simp; omega)]
  rfl

/-- The reference's gathered rows are the table's rows that the words name. -/
theorem refRows_val (T : FVec Ideal S1000000x64 .f32) (X : IVec S204800 32) (h : ∀ j : Fin 204800, (X (ix1 j)).toNat < 1000000)
    (j : Fin 204800) (c : Fin 64) :
    refRows T X (ix2 j c) = T (ix2 ⟨(X (ix1 j)).toNat, h j⟩ c) := by
  pointwise [refRows]
  rw [refMask_val X h j]
  have g := Routing.gather_row (nb := 1000000) (B := 64) (n := 204800) gather_S1000000x64_S204800x1_S204800x64_1_0_n_n_0_1_164 rfl rfl rfl rfl rfl
    T (refIdx X) j c ⟨(X (ix1 j)).toNat, h j⟩ (by rw [← ix2_eq_valueIdx]; exact (refIdx_val X j (h j)).trans (BitVec.eq_of_toNat_eq (by simp))) (by decide)
  rw [← ix2_eq_valueIdx, ← ix2_eq_valueIdx] at g
  exact g

/-- The numbers up to `j` among the first `n`. -/
theorem count_upto (j n : ℕ) : Nat.count (fun q => q ≤ j) n = min (j + 1) n := by
  induction n with
  | zero => simp
  | succ n ih =>
    rw [Nat.count_succ, ih]
    split <;> omega

/-- With bag `q` beginning at word `q`, word `j` lies in bag `j`, or in the last bag, 4095. -/
theorem refSeg_val (O : IVec S4096 32) (hO : ∀ q : Fin 4096, O (ix1 q) = BitVec.ofNat 32 q.val) (j : Fin 204800) :
    refSeg O (ix2 j 0) = BitVec.ofNat 32 (min j.val 4095) := by
  have hc := Routing.reduce_count (n := 204800) (m := 4096) (by norm_num) (refBegun O) natLt_1_32 reducesTo_S204800x4096_S204800_d1 h_S_ j
    (fun q => q ≤ j.val) (fun q => by rw [← ix2_eq_valueIdx]; exact refBegun_val O hO j q)
  rw [count_upto, ← ix1_eq_valueIdx] at hc
  pointwise at hc
  pointwise [refSeg]
  rw [hc]
  apply BitVec.eq_of_toNat_eq
  simp only [IntOp.subi, BitVec.toNat_sub, BitVec.toNat_ofNat]
  omega

/-- The bag word `j` names as a word, read signed, is its number. -/
theorem toInt_small (n : ℕ) (h : n < 4096) : (BitVec.ofNat 32 n).toInt = (n : ℤ) := by
  rw [BitVec.toInt_eq_toNat_cond, BitVec.toNat_ofNat, Nat.mod_eq_of_lt (by omega), if_pos (by omega)]

/-- Where a row lands among the bags' sums: at its word's bag, in its own lane. -/
theorem lands2 (seg : IVec S204800x1 32) (f : ℕ → ℕ) (j : Fin 204800) (hs : seg (ix2 j 0) = BitVec.ofNat 32 (f j.val)) (hf : f j.val < 4096)
    (c : Fin 64) (r : Fin 4096) (k : Fin 64) :
    scatter_S4096x64_S204800x1_S204800x64_1_0_0_1.resultIdx? (ix2 j c) seg = some (ix2 r k) ↔ f j.val = r.val ∧ c = k := by
  rw [Routing.resultIdx?_eq_some]
  have hi : scatter_S4096x64_S204800x1_S204800x64_1_0_0_1.siIdx (ix2 j c) ⟨0, by decide⟩ = ix2 j 0 := by
    funext b; match b with | ⟨0, _⟩ => rfl | ⟨1, _⟩ => rfl
  have h0 : scatter_S4096x64_S204800x1_S204800x64_1_0_0_1.start (ix2 j c) seg 0 = (seg (ix2 j 0)).toInt :=
    congrArg (fun x => (seg x).toInt) hi
  have h1 : scatter_S4096x64_S204800x1_S204800x64_1_0_0_1.start (ix2 j c) seg 1 = 0 := rfl
  have w0 : scatter_S4096x64_S204800x1_S204800x64_1_0_0_1.window (ix2 j c) 0 = 0 := rfl
  have w1 : scatter_S4096x64_S204800x1_S204800x64_1_0_0_1.window (ix2 j c) 1 = c.val := rfl
  rw [hs, toInt_small _ hf] at h0
  constructor
  · intro h
    have a0 := h 0
    have a1 := h 1
    rw [h0, w0] at a0
    rw [h1, w1] at a1
    refine ⟨?_, Fin.ext ?_⟩
    · have : ((f j.val : ℕ) : ℤ) + ((0 : ℕ) : ℤ) = (r.val : ℤ) := a0
      omega
    · have : (0 : ℤ) + (c.val : ℤ) = (k.val : ℤ) := a1
      omega
  · rintro ⟨e, rfl⟩ a
    match a with
    | ⟨0, _⟩ =>
      refine (congrArg₂ (fun (x : ℤ) (y : ℕ) => x + (y : ℤ)) h0 w0).trans ?_
      show ((f j.val : ℕ) : ℤ) + ((0 : ℕ) : ℤ) = (r.val : ℤ)
      omega
    | ⟨1, _⟩ =>
      refine (congrArg₂ (fun (x : ℤ) (y : ℕ) => x + (y : ℤ)) h1 w1).trans ?_
      show (0 : ℤ) + (c.val : ℤ) = (c.val : ℤ)
      omega

/-- Where a one lands among the bags' sizes: at its word's bag. -/
theorem lands1 (seg : IVec S204800x1 32) (f : ℕ → ℕ) (j : Fin 204800) (hs : seg (ix2 j 0) = BitVec.ofNat 32 (f j.val)) (hf : f j.val < 4096)
    (r : Fin 4096) :
    scatter_S4096_S204800x1_S204800_n_0_0_1.resultIdx? (ix1 j) seg = some (ix1 r) ↔ f j.val = r.val := by
  rw [Routing.resultIdx?_eq_some]
  have hi : scatter_S4096_S204800x1_S204800_n_0_0_1.siIdx (ix1 j) ⟨0, by decide⟩ = ix2 j 0 := by
    funext b; match b with | ⟨0, _⟩ => rfl | ⟨1, _⟩ => rfl
  have h0 : scatter_S4096_S204800x1_S204800_n_0_0_1.start (ix1 j) seg 0 = (seg (ix2 j 0)).toInt :=
    congrArg (fun x => (seg x).toInt) hi
  have w0 : scatter_S4096_S204800x1_S204800_n_0_0_1.window (ix1 j) 0 = 0 := rfl
  rw [hs, toInt_small _ hf] at h0
  constructor
  · intro h
    have a0 := h 0
    rw [h0, w0] at a0
    have : ((f j.val : ℕ) : ℤ) + ((0 : ℕ) : ℤ) = (r.val : ℤ) := a0
    omega
  · intro e a
    match a with
    | ⟨0, _⟩ =>
      refine (congrArg₂ (fun (x : ℤ) (y : ℕ) => x + (y : ℤ)) h0 w0).trans ?_
      show ((f j.val : ℕ) : ℤ) + ((0 : ℕ) : ℤ) = (r.val : ℤ)
      omega

/-- A bag's sum in a lane: the sum of that lane over the words of the bag. -/
theorem refSum_val (seg : IVec S204800x1 32) (R : FVec Ideal S204800x64 .f32) (f : ℕ → ℕ) (hf : ∀ n, f n < 4096)
    (hs : ∀ j : Fin 204800, seg (ix2 j 0) = BitVec.ofNat 32 (f j.val)) (r : Fin 4096) (k : Fin 64) :
    refSum seg R (ix2 r k) = ∑ j : Fin 204800, if f j.val = r.val then R (ix2 j k) else 0 := by
  have h : refSum seg R (ix2 r k) = Ideal.ofBits .f32 0x00000000#32
      + ∑ j ∈ Finset.univ.filter (fun j => scatter_S4096x64_S204800x1_S204800x64_1_0_0_1.resultIdx? j seg = some (ix2 r k)), R j := rfl
  rw [h, Ideal.ofBits_zero_f32, zero_add, Finset.sum_filter, sum_idx2]
  refine Finset.sum_congr rfl fun j _ => ?_
  rw [Finset.sum_eq_single k]
  · exact if_congr ((lands2 seg f j (hs j) (hf _) k r k).trans (and_iff_left rfl)) rfl rfl
  · intro c _ hc
    exact if_neg fun e => hc ((lands2 seg f j (hs j) (hf _) c r k).1 e).2
  · intro hk; exact absurd (Finset.mem_univ k) hk

/-- A bag's size: as many ones as words of the bag. -/
theorem refCount_val (seg : IVec S204800x1 32) (f : ℕ → ℕ) (hf : ∀ n, f n < 4096)
    (hs : ∀ j : Fin 204800, seg (ix2 j 0) = BitVec.ofNat 32 (f j.val)) (r : Fin 4096) :
    refCount seg (ix1 r) = ∑ j : Fin 204800, if f j.val = r.val then (1 : EReal) else 0 := by
  have h : refCount seg (ix1 r) = Ideal.ofBits .f32 0x00000000#32
      + ∑ j ∈ Finset.univ.filter (fun j => scatter_S4096_S204800x1_S204800_n_0_0_1.resultIdx? j seg = some (ix1 r)), Ideal.ofBits .f32 0x3F800000#32 := rfl
  rw [h, Ideal.ofBits_zero_f32, Ideal.ofBits_one_f32, zero_add, Finset.sum_filter, sum_idx1]
  exact Finset.sum_congr rfl fun j _ => if_congr (lands1 seg f j (hs j) (hf _) r) rfl rfl

end Cert.Proof.Bag

end

end
-- ==== Proof.Equation.lean ====
/-
  The reference's function is the kernel's.
-/
module

public import proofs.«01_k».proof.Proof.KernelVal
public import proofs.«01_k».proof.Proof.RefVal

@[expose] public section

noncomputable section

namespace Cert.Proof.Bag

open Idealize.ShloMosaic Idealize.SL.Sem

open Cert.KernelIdeal Cert.KernelIdeal.Gen
set_option maxRecDepth 16384

/-- A row of the table by the word's number alone: for a word that names a row of the table, and a place among the words. -/
theorem rowN_eq (T : S1000000x64.Idx → EReal) (X : S204800.Idx → BitVec 32) (h : ∀ j : Fin 204800, (X (ix1 j)).toNat < 1000000)
    (j : Fin 204800) (c : Fin 64) : T (ix2 ⟨(X (ix1 j)).toNat, h j⟩ c) = rowN T X j.val c := by
  unfold rowN rowOfWord
  have e : (⟨j.val % 204800, Nat.mod_lt _ (by decide)⟩ : Fin 204800) = j := Fin.ext (Nat.mod_eq_of_lt j.isLt)
  refine congrArg (fun r : Fin 1000000 => T (ix2 r c)) (Fin.ext ?_)
  show (X (ix1 j)).toNat = (X (ix1 ⟨j.val % 204800, _⟩)).toNat % 1000000
  rw [e, Nat.mod_eq_of_lt (h j)]

/-- A sum over the words of one bag that is not the last has one term. -/
theorem one_word (G : ℕ → EReal) (r : ℕ) (hr : r < 4095) : (∑ j : Fin 204800, if min j.val 4095 = r then G j.val else 0) = G r := by
  rw [Finset.sum_eq_single (⟨r, by omega⟩ : Fin 204800)]
  · exact if_pos (Nat.min_eq_left (by show r ≤ 4095; omega))
  · intro j _ hj
    exact if_neg fun e => hj (Fin.ext (by show j.val = r; omega))
  · intro h; exact absurd (Finset.mem_univ _) h

/-- The words of the last bag are those from 4095 on. -/
theorem last_words (G : ℕ → EReal) : (∑ j : Fin 204800, if min j.val 4095 = 4095 then G j.val else 0) = ∑ j : Fin 204800, if 4095 ≤ j.val then G j.val else 0 :=
  Finset.sum_congr rfl fun j _ => if_congr (by omega) rfl rfl

/-- Dividing by one changes nothing. -/
theorem div_one (x : EReal) : Ideal.div x 1 = x := by
  simp [Ideal.div]

/-- The reference's means are the bags' means. -/
theorem refPooled (O : S4096.Idx → BitVec 32) (hO : ∀ q : Fin 4096, O (ix1 q) = BitVec.ofNat 32 q.val)
    (T : S1000000x64.Idx → EReal) (X : S204800.Idx → BitVec 32) (h : ∀ j : Fin 204800, (X (ix1 j)).toNat < 1000000) (i : Fin 4096) (c : Fin 64) :
    refPool (refSum (refSeg O) (refRows T X)) (refCount (refSeg O)) (ix2 i c) = pooled T X i c := by
  have hf : ∀ n, min n 4095 < 4096 := fun n => by omega
  refine (refPool_val _ _ i c).trans ?_
  have hs : refSum (refSeg O) (refRows T X) (ix2 i c) = ∑ j : Fin 204800, if min j.val 4095 = i.val then rowN T X j.val c else 0 := by
    refine (refSum_val _ _ (fun n => min n 4095) hf (refSeg_val O hO) i c).trans (Finset.sum_congr rfl fun j _ => ?_)
    exact if_congr Iff.rfl ((refRows_val T X h j c).trans (rowN_eq T X h j c)) rfl
  have hn : refCount (refSeg O) (ix1 i) = ∑ j : Fin 204800, if min j.val 4095 = i.val then (1 : EReal) else 0 :=
    refCount_val _ (fun n => min n 4095) hf (refSeg_val O hO) i
  refine (congrArg₂ (fun x y => Ideal.div x (max y 1)) hs hn).trans ?_
  unfold pooled
  by_cases hi : i.val = 4095
  · rw [if_pos hi, hi, last_words (fun j => rowN T X j c), last_words (fun _ => 1), tailSum_of_filter, count_of_filter]
    exact congrArg (Ideal.div _) (max_eq_left (by norm_num))
  · rw [if_neg hi, one_word (fun j => rowN T X j c) i.val (by omega), one_word (fun _ => 1) i.val (by omega)]
    exact (congrArg (Ideal.div _) (max_self 1)).trans (div_one _)

/-- The reference computes the target, where the words name rows of the table and bag `q` begins at word `q`. -/
theorem refAll_val (O : S4096.Idx → BitVec 32) (hO : ∀ q : Fin 4096, O (ix1 q) = BitVec.ofNat 32 q.val)
    (T : S1000000x64.Idx → EReal) (X : S204800.Idx → BitVec 32) (h : ∀ j : Fin 204800, (X (ix1 j)).toNat < 1000000)
    (w1 : S64x256.Idx → EReal) (b1 : S256.Idx → EReal) (w2 : S256x64.Idx → EReal) (b2 : S64.Idx → EReal) (i : Fin 4096) (k : Fin 64) :
    refAll X O T w1 b1 w2 b2 (ix2 i k) = target w1 b1 w2 b2 X T i k := by
  have hp : (fun c => refPool (refSum (refSeg O) (refRows T X)) (refCount (refSeg O)) (ix2 i c)) = pooled T X i :=
    funext fun c => refPooled O hO T X h i c
  have hl : (fun c => refLogits (refPool (refSum (refSeg O) (refRows T X)) (refCount (refSeg O))) w1 b1 w2 b2 (ix2 i c))
      = logit (pooled T X i) (fun a b => w1 (ix2 a b)) (fun a => b1 (ix1 a)) (fun a b => w2 (ix2 a b)) (fun a => b2 (ix1 a)) := by
    funext c
    rw [← hp]
    exact refLogits_val _ w1 b1 w2 b2 i c
  unfold refAll target logSoftmax
  refine (refOut_val _ i k).trans ?_
  rw [← hl]
  refine congrArg₂ (fun x y : EReal => x - Ideal.log y) (refShifted_val _ i k) (Finset.sum_congr rfl fun c _ => ?_)
  exact congrArg Ideal.exp (refShifted_val _ i c)

end Cert.Proof.Bag

end

end
-- ==== Proof.Value.lean ====
/-
  The claim of equal values: what its precondition says, the two further frames, and the equation of the results.
-/
module

public import proofs.«01_k».proof.Proof.Equation
public import proofs.«01_k».proof.Proof.Frames
public import Idealize.ShloMosaic.Lib.ReduceAll

@[expose] public section

noncomputable section

namespace Cert.Proof.Bag

open Idealize.ShloMosaic Idealize.SL.Sem

open Cert.KernelIdeal Cert.KernelIdeal.Gen
set_option maxRecDepth 16384

/-- The shape relations of the second precondition. -/
instance factsBags : Cert.Pre_idx_in_table_and_bags.Facts where
  bcast_S_S204800 := by decide
  reducesTo_S204800_S_d0 := by decide
  h_S_ := by decide
  reducesTo_S4096_S_d0 := by decide

/-- Two bits whose conjunction is one are both one. -/
theorem both_one (x y : BitVec 1) (h : IntOp.andi x y = 1#1) : x = 1#1 ∧ y = 1#1 := by
  revert x y; decide

/-- Words that compare equal are equal. -/
theorem eq_of_mask (x y : BitVec 32) (h : IntOp.cmpi .eq x y = 1#1) : x = y := by
  have one : ∀ b : Bool, BitVec.ofBool b = 1#1 → b = true := by decide
  exact eq_of_beq (one _ h)

/-- The second precondition says that every index word names a row of the table, and that bag `q` begins at word `q`. -/
theorem of_bags (X : S204800.Idx → BitVec 32) (O : S4096.Idx → BitVec 32) (T : S1000000x64.Idx → EReal) (w1 : S64x256.Idx → EReal)
    (b1 : S256.Idx → EReal) (w2 : S256x64.Idx → EReal) (b2 : S64.Idx → EReal)
    (h : Cert.Pre_idx_in_table_and_bags.fn (F := Ideal) X O T w1 b1 w2 b2 = fun _ => 1#1) :
    (∀ j, (X j).toNat < 1000000) ∧ ∀ q : Fin 4096, O (ix1 q) = BitVec.ofNat 32 q.val := by
  have e := congrFun h (fun a => a.elim0)
  have e2 := both_one _ _ e
  haveI : Subsingleton Cert.Pre_idx_in_table_and_bags.S_.Idx := ⟨fun a b => funext fun i => i.elim0⟩
  refine ⟨fun j => ?_, fun q => ?_⟩
  · exact row_of_masks _ (Host.reduce_andi_all _ _ _ _ _ e2.1 j)
  · exact eq_of_mask _ _ (Host.reduce_andi_all _ _ _ _ _ e2.2 (ix1 q))

/-- What the run asks of the launch memory, from the second precondition. -/
theorem ok_of_bags (m : (ℓ : Loc nD τ sig) → Buf (Elt Ideal) ℓ) (h : Cert.Pre_KernelIdeal_idx_in_table_and_bags m) : PreOK m :=
  fun d j => (of_bags _ _ _ _ _ _ _ (h d)).1 j

/-- `Cert.quiescent_KernelIdeal_pre_idx_in_table_and_bags`: the run at the extended reals, once more. -/
theorem frame_kernelIdeal_bags : Cert.quiescent_KernelIdeal_pre_idx_in_table_and_bags := fun m ρ h =>
  (θ_run Cert.KernelIdeal.defs _ _).mono (fun _ h => ⟨fun c => (h.1 c).1, h.2⟩) (run_main (F := Ideal) m ρ (ok_of_bags m h))

/-- `Cert.quiescent_ReferenceIdeal_pre_idx_in_table_and_bags`: the reference's frame asks nothing. -/
theorem frame_reference_bags : Cert.quiescent_ReferenceIdeal_pre_idx_in_table_and_bags := fun m ρ _ => frame_reference m ρ trivial

/-- From memories that agree on the arguments, what the kernel leaves is the reference's composed term. -/
theorem values_agree (m : (ℓ : Loc nD τ sig) → Buf (Elt Ideal) ℓ)
    (m' : (ℓ : Loc Cert.ReferenceIdeal.nD Cert.ReferenceIdeal.τ Cert.ReferenceIdeal.sig) → Buf (Elt Ideal) ℓ) (d : Dev nD)
    (h : Cert.Pre_KernelIdeal_idx_in_table_and_bags m)
    (a0 : m' ((d.tc : Thread Cert.ReferenceIdeal.nD Cert.ReferenceIdeal.τ).loc Cert.ReferenceIdeal.main_arg0) = m ((d.tc : Thread nD τ).loc main_arg0))
    (a1 : m' ((d.tc : Thread Cert.ReferenceIdeal.nD Cert.ReferenceIdeal.τ).loc Cert.ReferenceIdeal.main_arg1) = m ((d.tc : Thread nD τ).loc main_arg1))
    (a2 : m' ((d.tc : Thread Cert.ReferenceIdeal.nD Cert.ReferenceIdeal.τ).loc Cert.ReferenceIdeal.main_arg2) = m ((d.tc : Thread nD τ).loc main_arg2))
    (a3 : m' ((d.tc : Thread Cert.ReferenceIdeal.nD Cert.ReferenceIdeal.τ).loc Cert.ReferenceIdeal.main_arg3) = m ((d.tc : Thread nD τ).loc main_arg3))
    (a4 : m' ((d.tc : Thread Cert.ReferenceIdeal.nD Cert.ReferenceIdeal.τ).loc Cert.ReferenceIdeal.main_arg4) = m ((d.tc : Thread nD τ).loc main_arg4))
    (a5 : m' ((d.tc : Thread Cert.ReferenceIdeal.nD Cert.ReferenceIdeal.τ).loc Cert.ReferenceIdeal.main_arg5) = m ((d.tc : Thread nD τ).loc main_arg5))
    (a6 : m' ((d.tc : Thread Cert.ReferenceIdeal.nD Cert.ReferenceIdeal.τ).loc Cert.ReferenceIdeal.main_arg6) = m ((d.tc : Thread nD τ).loc main_arg6))
    (e : S4096x128.Idx → EReal) (s : S32x128.Idx → EReal) (he : ∀ w < 32, EmbOK (F := Ideal) m (Q1 m) d w e)
    (hs : ∀ w < 32, SumOK (F := Ideal) m (Q1 m) d w s) :
    mlpOut (F := Ideal) (V1 m e s) d = Cert.ReferenceIdeal.Value.res_main_v33 (F := Ideal) m' d := by
  have ok := of_bags _ _ _ _ _ _ _ (h d)
  refine Eq.trans ?_ (res_eq m' d).symm
  rw [a0, a1, a2, a3, a4, a5, a6]
  funext i
  rw [eq_ix2 (n0 := 4096) (n1 := 64) i]
  refine (kernel_val e s m d he hs (i 0) (i 1)).trans ?_
  exact (refAll_val _ ok.2 _ _ (fun j => ok.1 (ix1 j)) _ _ _ _ (i 0) (i 1)).symm

/-- `Cert.algebraic_KernelIdeal_ReferenceIdeal_pre_idx_in_table_and_bags`: the kernel and the reference leave one result over the extended reals. -/
theorem same_function : Cert.algebraic_KernelIdeal_ReferenceIdeal_pre_idx_in_table_and_bags := by
  intro m ρ m' ρ' h ha
  refine ⟨fun c => Cert.ReferenceIdeal.Value.res_main_v33 (F := Ideal) m' c, ?_, Cert.ReferenceIdeal.Value.run (F := Ideal) m' ρ'⟩
  refine (θ_run Cert.KernelIdeal.defs _ _).mono (fun r hr c => ?_) (run_main (F := Ideal) m ρ (ok_of_bags m h))
  obtain ⟨args, e, s, ⟨he, hs⟩, hv⟩ := hr.1 c
  obtain ⟨a0, a1, a2, a3, a4, a5, a6⟩ := ha c
  exact ⟨hv.trans (values_agree m m' c h a0 a1 a2 a3 a4 a5 a6 e s he hs), args⟩

end Cert.Proof.Bag

end

end
-- ==== Proof.lean ====
/-
  The proof of `Cert.Claim`: the frames of the kernel at both float values and of the reference, and the equation of
  the kernel's result with the reference's over the extended reals.
-/
module

public import proofs.«01_k».proof.Defs
public import proofs.«01_k».proof.Proof.Frames
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_idx_in_table

@[expose] public section

noncomputable section

namespace Cert.Proof

open Idealize.ShloMosaic

/-- Everything `Defs.lean` claims. -/
theorem claim : Cert.Claim :=
  ⟨Cert.Kernel.Gen.facts, Cert.KernelIdeal.Gen.facts, Cert.ReferenceIdeal.Gen.facts, Cert.Pre_idx_in_table.Gen.facts, Bag.factsBags,
    Bag.frame_kernel, Bag.frame_kernelIdeal, Bag.frame_kernelIdeal_bags, Bag.frame_reference, Bag.frame_reference_bags, trivial,
    Bag.same_function⟩

end Cert.Proof

end
